-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S4x256x256 : Shape := ⟨3, ![4, 256, 256]⟩
abbrev S4x4 : Shape := ⟨2, ![4, 4]⟩
abbrev S_ : Shape := ⟨0, ![]⟩
abbrev S1x1 : Shape := ⟨2, ![1, 1]⟩
abbrev S1x64x256 : Shape := ⟨3, ![1, 64, 256]⟩
abbrev S64x256 : Shape := ⟨2, ![64, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .bf16⟩
  | .hbm, ⟨1, _⟩ => ⟨S256x256, .bf16⟩
  | .local _ .vmem, ⟨0, _⟩ => ⟨S256x256, .bf16⟩
  | .local _ .vmem, ⟨1, _⟩ => ⟨S256x256, .bf16⟩
  | .local _ .vmem, ⟨2, _⟩ => ⟨S4x256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v19 : BitVec 32 := Scalar.xori v2 c1_i32_16
  let c1_i32_22 : BitVec 32 := 1#32
  let v20 : BitVec 32 := Scalar.muli v19 c1_i32_22
  let v21 : BitVec 32 := Scalar.addi c0_i32_23 v20
  v21.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_28 : BitVec 32 := 3#32
  let v29 : BitVec 32 := Scalar.xori v2 c3_i32_28
  let c1_i32_34 : BitVec 32 := 1#32
  let v30 : BitVec 32 := Scalar.muli v29 c1_i32_34
  let v31 : BitVec 32 := Scalar.addi c0_i32_35 v30
  v31.toNat
def k0_dev7 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v39 : BitVec 32 := Scalar.xori v2 c4_i32_39
  let c1_i32_44 : BitVec 32 := 1#32
  let v40 : BitVec 32 := Scalar.muli v39 c1_i32_44
  let v41 : BitVec 32 := Scalar.addi c0_i32_45 v40
  v41.toNat
def k0_dev8 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_49 : BitVec 32 := 8#32
  let v49 : BitVec 32 := Scalar.xori v2 c8_i32_49
  let c1_i32_55 : BitVec 32 := 1#32
  let v50 : BitVec 32 := Scalar.muli v49 c1_i32_55
  let v51 : BitVec 32 := Scalar.addi c0_i32_56 v50
  v51.toNat
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_88 : BitVec 32 := 3#32
  let v77 : BitVec 32 := Scalar.xori v2 c3_i32_88
  let c1_i32_94 : BitVec 32 := 1#32
  let v78 : BitVec 32 := Scalar.muli v77 c1_i32_94
  let v79 : BitVec 32 := Scalar.addi c0_i32_95 v78
  v79.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_127 : BitVec 32 := 4#32
  let v105 : BitVec 32 := Scalar.xori v2 c4_i32_127
  let c1_i32_133 : BitVec 32 := 1#32
  let v106 : BitVec 32 := Scalar.muli v105 c1_i32_133
  let v107 : BitVec 32 := Scalar.addi c0_i32_134 v106
  v107.toNat
def k0_dev11 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_166 : BitVec 32 := 8#32
  let v133 : BitVec 32 := Scalar.xori v2 c8_i32_166
  let c1_i32_172 : BitVec 32 := 1#32
  let v134 : BitVec 32 := Scalar.muli v133 c1_i32_172
  let v135 : BitVec 32 := Scalar.addi c0_i32_173 v134
  v135.toNat
def k0_dev12 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_205 : BitVec 32 := 1#32
  let v161 : BitVec 32 := Scalar.xori v2 c1_i32_205
  let c1_i32_211 : BitVec 32 := 1#32
  let v162 : BitVec 32 := Scalar.muli v161 c1_i32_211
  let v163 : BitVec 32 := Scalar.addi c0_i32_212 v162
  v163.toNat
def k0_dev13 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_244 : BitVec 32 := 4#32
  let v189 : BitVec 32 := Scalar.xori v2 c4_i32_244
  let c1_i32_250 : BitVec 32 := 1#32
  let v190 : BitVec 32 := Scalar.muli v189 c1_i32_250
  let v191 : BitVec 32 := Scalar.addi c0_i32_251 v190
  v191.toNat
def k0_dev14 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_284 : BitVec 32 := 8#32
  let v217 : BitVec 32 := Scalar.xori v2 c8_i32_284
  let c1_i32_290 : BitVec 32 := 1#32
  let v218 : BitVec 32 := Scalar.muli v217 c1_i32_290
  let v219 : BitVec 32 := Scalar.addi c0_i32_291 v218
  v219.toNat
def k0_dev15 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_324 : BitVec 32 := 1#32
  let v245 : BitVec 32 := Scalar.xori v2 c1_i32_324
  let c1_i32_330 : BitVec 32 := 1#32
  let v246 : BitVec 32 := Scalar.muli v245 c1_i32_330
  let v247 : BitVec 32 := Scalar.addi c0_i32_331 v246
  v247.toNat
def k0_dev16 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_364 : BitVec 32 := 3#32
  let v273 : BitVec 32 := Scalar.xori v2 c3_i32_364
  let c1_i32_370 : BitVec 32 := 1#32
  let v274 : BitVec 32 := Scalar.muli v273 c1_i32_370
  let v275 : BitVec 32 := Scalar.addi c0_i32_371 v274
  v275.toNat
def k0_dev17 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_403 : BitVec 32 := 8#32
  let v301 : BitVec 32 := Scalar.xori v2 c8_i32_403
  let c1_i32_409 : BitVec 32 := 1#32
  let v302 : BitVec 32 := Scalar.muli v301 c1_i32_409
  let v303 : BitVec 32 := Scalar.addi c0_i32_410 v302
  v303.toNat
def k0_dev18 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_443 : BitVec 32 := 1#32
  let v329 : BitVec 32 := Scalar.xori v2 c1_i32_443
  let c1_i32_449 : BitVec 32 := 1#32
  let v330 : BitVec 32 := Scalar.muli v329 c1_i32_449
  let v331 : BitVec 32 := Scalar.addi c0_i32_450 v330
  v331.toNat
def k0_dev19 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_483 : BitVec 32 := 3#32
  let v357 : BitVec 32 := Scalar.xori v2 c3_i32_483
  let c1_i32_489 : BitVec 32 := 1#32
  let v358 : BitVec 32 := Scalar.muli v357 c1_i32_489
  let v359 : BitVec 32 := Scalar.addi c0_i32_490 v358
  v359.toNat
def k0_dev20 (d0 : Dev nD) : Nat :=
  let c0_i32_530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_523 : BitVec 32 := 4#32
  let v385 : BitVec 32 := Scalar.xori v2 c4_i32_523
  let c1_i32_529 : BitVec 32 := 1#32
  let v386 : BitVec 32 := Scalar.muli v385 c1_i32_529
  let v387 : BitVec 32 := Scalar.addi c0_i32_530 v386
  v387.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S16x256x256 : Shape := ⟨3, ![16, 256, 256]⟩
abbrev S_ : Shape := ⟨0, ![]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S16x256x256, .bf16⟩
  | .hbm, ⟨2, _⟩ => ⟨S16x256x256, .f32⟩
  | .hbm, ⟨3, _⟩ => ⟨S_, .f32⟩
  | .hbm, ⟨4, _⟩ => ⟨S256x256, .f32⟩
  | .hbm, ⟨5, _⟩ => ⟨S256x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Steps.lean ====
/-
The kernel as a sequence of steps.

The printed kernel is one straight line of some hundred operations. Here the four operations it repeats — a
signal, a remote copy, a fold of what arrived, and a fold followed by the next copy — are written once, over the
round `k` and the piece `p`, and the printed kernel is shown to be their sequence. Everything after this module is
stated over a symbolic round and piece.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Doubling

open Cert.KernelIdeal Cert.KernelIdeal.Gen
open Idealize.ShloMosaic Idealize.SL.Sem

variable {F : FTy → Type} [FloatOps F]

/-! ## The buffers, their pieces and the semaphores -/

/-- The staged shard of `x`. -/
abbrev xM : Memref sig .tc .vmem S256x256 .bf16 := Memref.whole cc0_stg0_0
/-- The running sum, staged for the output. -/
abbrev oM : Memref sig .tc .vmem S256x256 .bf16 := Memref.whole cc0_stg1_0
/-- The landing buffer: one 256 × 256 array per round. -/
abbrev cM : Memref sig .tc .vmem S4x256x256 .bf16 := Memref.whole cc0_scratch0

/-- Piece `p` of the output lies inside it. -/
theorem inbO : ∀ p : Fin 4, ∀ a, (![64 * p.val, 0] : Fin 2 → Nat) a + S64x256.size a ≤ S256x256.size a := by decide
/-- Piece `p` of round `k`'s landing array lies inside the landing buffer. -/
theorem inbC : ∀ k p : Fin 4, ∀ a, (![k.val, 64 * p.val, 0] : Fin 3 → Nat) a + S1x64x256.size a ≤ S4x256x256.size a := by decide
/-- Semaphore `(k, p)` lies inside its array. -/
theorem inbS : ∀ k p : Fin 4, ∀ a, (![k.val, p.val] : Fin 2 → Nat) a + S1x1.size a ≤ S4x4.size a := by decide

/-- Rows `64 p ≤ r < 64 p + 64` of a 256 × 256 array. -/
abbrev rO (p : Fin 4) : Rect S256x256 := Rect.unit (s := S256x256) ![64 * p.val, 0] S64x256.size (inbO p)
/-- The same rows of round `k`'s landing array. -/
abbrev rC (k p : Fin 4) : Rect S4x256x256 := Rect.unit (s := S4x256x256) ![k.val, 64 * p.val, 0] S1x64x256.size (inbC k p)
/-- Entry `(k, p)` of a semaphore array. -/
abbrev rS (k p : Fin 4) : Rect S4x4 := Rect.unit (s := S4x4) ![k.val, p.val] S1x1.size (inbS k p)
/-- A whole 256 × 256 array. -/
abbrev rW : Rect S256x256 := Rect.unit (s := S256x256) ![0, 0] S256x256.size inb_S256x256_S256x256_0_0

/-- Piece `p` of the output is whole words. -/
theorem wordsO : ∀ p : Fin 4, (rO p).WholeWords (EltTy.packing .bf16) := by decide
/-- So is each landing slot. -/
theorem wordsC : ∀ k p : Fin 4, (rC k p).WholeWords (EltTy.packing .bf16) := by decide
/-- Piece `p` of the output is whole packed rows. -/
theorem packedO : ∀ p : Fin 4, (rO p).PackedRows (EltTy.packing .bf16) := by decide

/-- Piece `p` of the output. -/
abbrev oP (p : Fin 4) : Memref sig .tc .vmem S64x256 .bf16 := oM.slice (rO p) (fun _ => rfl)
/-- Landing slot `(k, p)`. -/
abbrev cP (k p : Fin 4) : Memref sig .tc .vmem S64x256 .bf16 := (cM.slice (rC k p) (fun _ => rfl)).squeeze S64x256 squeezes_S1x64x256_S64x256
/-- The semaphore a copy of round `k`, piece `p` credits at its source. -/
abbrev sS (k p : Fin 4) : DmaSem sig := (((cc0_scratch1 : DmaSems sig S4x4).slice (rS k p)).squeeze S_ squeezes_S1x1_S_).sem
/-- The semaphore it credits at its target. -/
abbrev vS (k p : Fin 4) : DmaSem sig := (((cc0_scratch2 : DmaSems sig S4x4).slice (rS k p)).squeeze S_ squeezes_S1x1_S_).sem
/-- The barrier semaphore of the kernel's collective. -/
abbrev barS : Sem sig := (SemArray.scalar (sig.barrier 0 rfl) : Sems sig S_).sem

theorem exactO (p : Fin 4) : (oP p).view.WordExact := (Memref.isWhole_whole cc0_stg1_0).wordExact_slice rfl _ (wordsO p)
theorem exactC (k p : Fin 4) : (cP k p).view.WordExact := ((Memref.isWhole_whole cc0_scratch0).wordExact_slice rfl _ (wordsC k p)).reshape _ _

/-! ## The steps -/

/-- The programs of this kernel. -/
abbrev P (F : FTy → Type) : Type → Type 1 := Prog (TpuEff nD τ sig (Elt F) Λ₀ .tc)

/-- The remote copy of round `k`, piece `p`, to device `n`. -/
def send (k p : Fin 4) (n : Dev nD) : P F PUnit :=
  Prog.lift (.enqueueDma (oP p) (.remote (Dev.tc n) (cP k p) (.dma (sS k p))) (.dma (vS k p)) (exactO p) (exactC k p)
    ⟨⟨rfl, Or.inl rfl⟩, trivial⟩)

/-- The fold of round `k`, piece `p`: wait until the copy sent has left and the copy received has landed, then add the
    landing slot to the output's piece. -/
def fold (k p : Fin 4) : P F PUnit := do
  Prog.lift (.waitDma2 (sS k p) (cP k p) (oP p) (exactC k p) (exactO p))
  Prog.lift (.waitDma2 (vS k p) (oP p) (cP k p) (exactO p) (exactC k p))
  let a : Vec F S64x256 .bf16 ← Prog.lift (.load oM (rO p).toLoadRect (View.loadsAt_vmem h_S64x256))
  let b : Vec F S1x64x256 .bf16 ← Prog.lift (.load cM (rC k p).toLoadRect (View.loadsAt_vmem h_S1x64x256))
  let _ : Vec F S64x256 .bf16 ← Prog.lift (.load oM (rO p).toLoadRect (View.loadsAt_vmem h_S64x256))
  Prog.lift (.store oM (rO p) (k0_pay2 a b) Finset.univ
    (View.stores_vmem h_S64x256 ((Memref.isWhole_whole cc0_stg1_0).storeExact_slice rfl _ (packedO p)) (fun _ => rfl)) (.inl rfl))

/-- The entry: signal four partners, copy the shard of `x` into the output, wait for four signals. -/
def enter (n : Fin 4 → Dev nD) : P F PUnit := do
  semSignalWord (n 0) barS 1#32
  semSignalWord (n 1) barS 1#32
  semSignalWord (n 2) barS 1#32
  semSignalWord (n 3) barS 1#32
  let v : Vec F S256x256 .bf16 ← Prog.lift (.load xM rW.toLoadRect (View.loadsAt_vmem h_S256x256))
  let _ : Vec F S256x256 .bf16 ← Prog.lift (.load oM rW.toLoadRect (View.loadsAt_vmem h_S256x256))
  Prog.lift (.store oM rW (k0_pay1 v) Finset.univ
    (View.stores_vmem h_S256x256 ((Memref.isWhole_whole cc0_stg1_0).storeExact_slice rfl _ packedbf16_S256x256_S256x256_0_0) (fun _ => rfl)) (.inl rfl))
  semWaitWord barS 4#32

/-- The round of step `j` — the steps run through the rounds, in each through the pieces. -/
def kk (j : Fin 16) : Fin 4 := ⟨j.val / 4, by omega⟩
/-- The piece of step `j`. -/
def pp (j : Fin 16) : Fin 4 := ⟨j.val % 4, by omega⟩

/-- The step that is a round later, if there is one: its copy is sent when step `j` has folded. -/
def next (j : Fin 16) : Option (Fin 16) := if h : j.val + 4 < 16 then some ⟨j.val + 4, h⟩ else none

/-- The copy of step `i`, if `i` is one. -/
def sendOpt (n : Fin 16 → Dev nD) : Option (Fin 16) → P F PUnit
  | none => pure ⟨⟩
  | some i => send (kk i) (pp i) (n i)

/-- Step `j`: fold its round and piece, then send the folded piece in the next round. -/
def step (n : Fin 16 → Dev nD) (j : Fin 16) : P F PUnit := do
  fold (kk j) (pp j)
  sendOpt n (next j)

/-- The last `r` steps. -/
def steps (n : Fin 16 → Dev nD) : ℕ → P F PUnit
  | 0 => pure ⟨⟩
  | r + 1 => do
    step n ⟨15 - r, by omega⟩
    steps n r

/-- The first round's four copies. -/
def sends (n : Fin 16 → Dev nD) : P F PUnit := do
  send 0 0 (n 0)
  send 0 1 (n 1)
  send 0 2 (n 2)
  send 0 3 (n 3)

/-- The devices the kernel signals, as it computes them. -/
def sigDev (c : Dev nD) : Fin 4 → Dev nD :=
  ![⟨k0_dev1 c, k0_dev1_lt c⟩, ⟨k0_dev2 c, k0_dev2_lt c⟩, ⟨k0_dev3 c, k0_dev3_lt c⟩, ⟨k0_dev4 c, k0_dev4_lt c⟩]

/-- The devices the kernel copies to, step by step, as it computes them. -/
def dstDev (c : Dev nD) : Fin 16 → Dev nD :=
  ![⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩, ⟨k0_dev20 c, k0_dev20_lt c⟩]

/-- The kernel as its steps. -/
def body : P F PUnit := do
  let c : Dev nD ← Prog.lift .deviceId
  enter (sigDev c)
  sends (dstDev c)
  steps (dstDev c) 16

set_option maxRecDepth 65536 in
/-- The printed kernel at its buffers is the sequence of its steps. -/
theorem body_eq :
    cc0_body (F := F) xM (Memref.isWhole_whole _) oM (Memref.isWhole_whole _) cM (Memref.isWhole_whole _) cc0_scratch1 cc0_scratch2 = body := by
  chain_rfl

end Cert.KernelIdeal.Doubling

end
-- ==== Proof.Protocol.lean ====
/-
The protocol of the recursive doubling.

Sixteen devices sum their shards. In round `k`, piece `p` of the running sum is exchanged with the partner across
axis `k + p` (mod 4) of the hypercube: the partner's number is the device's own with a fixed mask flipped. Each device
has one barrier cell, on which its four partners signal, and for each step — each round and piece — one cell for the
copy it sends and one for the copy it receives.

* A signal hands the partner the landing slots the partner will copy into.
* A copy's own cell hands the piece back to its sender.
* A copy's target cell hands the target the landing slot, holding the partner's piece.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Doubling

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The partners -/

/-- The mask an axis flips. -/
def mask : Fin 4 → ℕ := ![1, 3, 4, 8]

/-- The partner of `c` across axis `a`. -/
def peer (a : Fin 4) (c : Dev nD) : Dev nD := ⟨Nat.xor c.val (mask a) % 16, Nat.mod_lt _ (by decide)⟩

/-- A partner's partner across the same axis is the device itself. -/
theorem peer_peer : ∀ (a : Fin 4) (c : Dev nD), peer a (peer a c) = c := by decide

/-- The axis of step `j`. -/
def ax (j : Fin 16) : Fin 4 := kk j + pp j

/-- The device step `j` of `c` exchanges with. -/
abbrev mate (j : Fin 16) (c : Dev nD) : Dev nD := peer (ax j) c

/-- The kernel signals its four partners, -/
theorem sigDev_eq : ∀ (c : Dev nD) (a : Fin 4), sigDev c a = peer a c := by decide +kernel
/-- and copies to the partner of each step. -/
theorem dstDev_eq : ∀ (c : Dev nD) (j : Fin 16), dstDev c j = mate j c := by decide +kernel

/-! ## The running sums -/

/-- The contents of a 256 × 256 array. -/
abbrev Arr (F : FTy → Type) : Type := S256x256.Idx → Elt F .bf16

/-- The piece a row lies in. -/
def prow (i : S256x256.Idx) : Fin 4 := ⟨(i 0).val / 64, by have h : (i 0).val < 256 := (i 0).isLt; omega⟩

/-- The running sum of device `c` before round `k`, from the shards `X`: a round adds to each row what the partner across
    the axis of the row's piece held. -/
def V (X : Dev nD → Arr F) : ℕ → Dev nD → Arr F
  | 0 => X
  | k + 1 => fun c i => FloatOps.addf (V X k c i) (V X k (peer (Fin.ofNat 4 k + prow i) c) i)

/-- The row and column of an index of the landing buffer. -/
def flat (i : S4x256x256.Idx) : S256x256.Idx
  | 0 => i 1
  | 1 => i 2

/-- The landing buffer of device `c` once every copy has landed: in round `k`'s array, what the partners held before
    round `k`. -/
def CM (X : Dev nD → Arr F) (c : Dev nD) : S4x256x256.Idx → Elt F .bf16 :=
  fun i => V X (i 0).val (peer (Fin.ofNat 4 (i 0).val + prow (flat i)) c) (flat i)

/-! ## The cells -/

/-- The resource algebra: the staging pipeline's rounds and this protocol's, its duties named by the four axes. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The semaphores of step `j`: its copy's own, and its copy's target's. -/
abbrev sSem (j : Fin 16) : DmaSem sig := sS (kk j) (pp j)
abbrev vSem (j : Fin 16) : DmaSem sig := vS (kk j) (pp j)

abbrev barCell (c : Dev nD) : GSem nD τ sig := ((c : Thread nD τ), .reg barS)
abbrev sendCell (c : Dev nD) (j : Fin 16) : GSem nD τ sig := ((c : Thread nD τ), .dma (sSem j))
abbrev recvCell (c : Dev nD) (j : Fin 16) : GSem nD τ sig := ((c : Thread nD τ), .dma (vSem j))

/-- What a semaphore is for. -/
inductive Role where
  | bar
  | send (j : Fin 16)
  | recv (j : Fin 16)
  | other
deriving DecidableEq

/-- What a semaphore of the kernel is for, read off its place in the table. -/
def role : SemLoc sig → Role
  | .reg _ => .bar
  | .dma q => if h : 2 ≤ q.val ∧ q.val < 18 then .send ⟨q.val - 2, by omega⟩
      else if h : 18 ≤ q.val ∧ q.val < 34 then .recv ⟨q.val - 18, by omega⟩ else .other

theorem role_bar : role (.reg barS) = .bar := rfl
theorem role_send : ∀ j, role (.dma (sSem j)) = .send j := by decide
theorem role_recv : ∀ j, role (.dma (vSem j)) = .recv j := by decide

/-- The credit of one copy. -/
abbrev N : ℕ := (cP 0 0).view.dmaCredit
theorem N_pos : 0 < N := View.dmaCredit_pos _ (by decide)

/-! ## The payloads -/

/-- Landing slot `j` of device `c`, at contents `f`. -/
def slot (c : Dev nD) (j : Fin 16) (f : S4x256x256.Idx → Elt F .bf16) : sProp 𝕄 :=
  ((c : Thread nD τ).loc cc0_scratch0) ↦[(rC (kk j) (pp j)).set]{fullShare} f

/-- Piece `p` of device `c`'s output, at contents `f`. -/
def piece (c : Dev nD) (p : Fin 4) (f : Arr F) : sProp 𝕄 :=
  ((c : Thread nD τ).loc cc0_stg1_0) ↦[(rO p).set]{fullShare} f

omit [FloatOps F] in
instance slot_storable (c : Dev nD) (j) (f) : BI.Storable (upEmb : UEmb _ 𝕄) (slot (F := F) c j f) := by unfold slot; infer_instance
omit [FloatOps F] in
instance piece_storable (c : Dev nD) (p) (f) : BI.Storable (upEmb : UEmb _ 𝕄) (piece (F := F) c p f) := by unfold piece; infer_instance

/-- The steps across axis `a`. -/
def across (a : Fin 4) : Finset (Fin 16) := Finset.univ.filter fun j => ax j = a

/-- What the partner across `a` hands `c` with its signal: its landing slots of the steps across `a`. -/
def barPay (c : Dev nD) (a : Fin 4) : sProp 𝕄 := bigSep (across a) fun j => iprop(∃ f, slot (peer a c) j f)

variable (X : Dev nD → Arr F)

/-- What a copy's own cell hands back: the piece it was read from. -/
def sendPay (c : Dev nD) (j : Fin 16) : sProp 𝕄 := piece c (pp j) (V X (kk j).val c)
/-- What its target's cell hands over: the landing slot, holding the partner's piece. -/
def recvPay (c : Dev nD) (j : Fin 16) : sProp 𝕄 := slot c j (CM X c)

/-- The duties of a role: the barrier has one per axis, a copy's cells one. -/
def roleDuties : Role → Finset (Fin 4)
  | .bar => Finset.univ
  | .send _ => {0}
  | .recv _ => {0}
  | .other => ∅
def roleAmount : Role → ℕ
  | .bar => 1
  | _ => N
def rolePay (c : Dev nD) (a : Fin 4) : Role → sProp 𝕄
  | .bar => barPay c a
  | .send j => sendPay X c j
  | .recv j => recvPay X c j
  | .other => iprop(emp)

/-- The schedule: every cell has one round, round 0. -/
def sched : Rounds.Schedule (GSem nD τ sig) (Fin 4) 𝕄 where
  duties g r := if r = 0 ∧ g.1.2 = .tc then roleDuties (role g.2) else ∅
  unitless _ := False
  amount g _ _ := roleAmount (role g.2)
  payload g _ d := rolePay X g.1.1 d (role g.2)
  amount_pos g _ _ _ := by
    unfold roleAmount
    split
    · exact Nat.one_pos
    · exact N_pos

instance sched_storable (g : GSem nD τ sig) (r : ℕ) (d : Fin 4) :
    BI.Storable (upEmb : UEmb _ 𝕄) ((sched X).payload g r d) := by
  show BI.Storable upEmb (rolePay X g.1.1 d (role g.2))
  unfold rolePay barPay sendPay recvPay
  split <;> infer_instance

theorem duties_zero (c : Dev nD) (sm : SemLoc sig) : (sched X).duties ((c : Thread nD τ), sm) 0 = roleDuties (role sm) := rfl
theorem duties_bar (c : Dev nD) : (sched X).duties (barCell c) 0 = Finset.univ := rfl
theorem duties_send (c : Dev nD) (j : Fin 16) : (sched X).duties (sendCell c j) 0 = {0} := by
  rw [duties_zero, role_send]; rfl
theorem duties_recv (c : Dev nD) (j : Fin 16) : (sched X).duties (recvCell c j) 0 = {0} := by
  rw [duties_zero, role_recv]; rfl
theorem duties_later (g : GSem nD τ sig) : ∀ r, 1 ≤ r → (sched X).duties g r = ∅ :=
  fun r hr => if_neg fun h => by omega

theorem amount_bar (c : Dev nD) (d) : (sched X).amount (barCell c) 0 d = 1 := rfl
theorem amount_send (c : Dev nD) (j : Fin 16) (d) : (sched X).amount (sendCell c j) 0 d = N := by
  show roleAmount (role (.dma (sSem j))) = _
  rw [role_send]; rfl
theorem amount_recv (c : Dev nD) (j : Fin 16) (d) : (sched X).amount (recvCell c j) 0 d = N := by
  show roleAmount (role (.dma (vSem j))) = _
  rw [role_recv]; rfl

theorem expect_bar (c : Dev nD) : (sched X).expect (barCell c) 0 = 4 := by
  unfold Schedule.expect Schedule.amountOf
  rw [duties_bar, Finset.sum_congr rfl fun d _ => amount_bar X c d]; rfl
theorem expect_send (c : Dev nD) (j : Fin 16) : (sched X).expect (sendCell c j) 0 = N := by
  unfold Schedule.expect Schedule.amountOf; rw [duties_send, Finset.sum_singleton, amount_send]
theorem expect_recv (c : Dev nD) (j : Fin 16) : (sched X).expect (recvCell c j) 0 = N := by
  unfold Schedule.expect Schedule.amountOf; rw [duties_recv, Finset.sum_singleton, amount_recv]

theorem payload_bar (c : Dev nD) (a : Fin 4) : (sched X).payload (barCell c) 0 a = barPay c a := rfl
theorem payload_send (c : Dev nD) (j : Fin 16) (d) : (sched X).payload (sendCell c j) 0 d = sendPay X c j := by
  show rolePay X c d (role (.dma (sSem j))) = _
  rw [role_send]; rfl
theorem payload_recv (c : Dev nD) (j : Fin 16) (d) : (sched X).payload (recvCell c j) 0 d = recvPay X c j := by
  show rolePay X c d (role (.dma (vSem j))) = _
  rw [role_recv]; rfl

/-- What a barrier wait brings: the landing slot of every step, at the partner of the step. -/
theorem rest_bar (c : Dev nD) :
    bigSep ((sched X).duties (barCell c) 0 \ ∅) (fun d => (sched X).payload (barCell c) 0 d)
      = bigSep Finset.univ fun j : Fin 16 => iprop(∃ f, slot (F := F) (mate j c) j f) := by
  rw [Finset.sdiff_empty, duties_bar, bigSep_fiberwise Finset.univ ax,
    show Finset.univ.image ax = Finset.univ from by decide]
  refine bigSep_congr fun a _ => ?_
  rw [payload_bar]
  refine bigSep_congr fun j hj => ?_
  rw [mate, (Finset.mem_filter.mp hj).2]
theorem rest_send (c : Dev nD) (j : Fin 16) :
    bigSep ((sched X).duties (sendCell c j) 0 \ ∅) (fun d => (sched X).payload (sendCell c j) 0 d) = sendPay X c j := by
  rw [Finset.sdiff_empty, duties_send, bigSep_singleton, payload_send]
theorem rest_recv (c : Dev nD) (j : Fin 16) :
    bigSep ((sched X).duties (recvCell c j) 0 \ ∅) (fun d => (sched X).payload (recvCell c j) 0 d) = recvPay X c j := by
  rw [Finset.sdiff_empty, duties_recv, bigSep_singleton, payload_recv]

/-! ## What a device owes, and the levels -/

/-- The step with `r` steps after it. -/
abbrev back (r : ℕ) : Fin 16 := ⟨15 - r, by omega⟩

/-- What device `c` owes for its last `r` copies: their credit on the partners' cells. -/
def owe (c : Dev nD) : ℕ → CellTallies nD τ sig Unit
  | 0 => 0
  | r + 1 => owe c r + tallyAt (recvCell (mate (back r) c) (back r)) () N

/-- What it owes at launch: every copy, and a signal to each partner. The first signal peels the last summand. -/
def O₃ (c : Dev nD) : CellTallies nD τ sig Unit := owe c 16 + tallyAt (barCell (peer 3 c)) () 1
def O₂ (c : Dev nD) : CellTallies nD τ sig Unit := O₃ c + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅
/-- The level of a role: a copy's own cell and the staging cells lowest, then the barrier, then the target cells in the
    order of the steps. -/
def roleLv : Role → ℕ
  | .bar => 1
  | .recv j => 2 + j.val
  | _ => 0
def lv (g : GSem nD τ sig) (_ : Unit) : ℕ := roleLv (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_send (c : Dev nD) (j : Fin 16) : lv (sendCell c j) () = 0 := by unfold lv; rw [role_send]; rfl
theorem lv_recv (c : Dev nD) (j : Fin 16) : lv (recvCell c j) () = 2 + j.val := by unfold lv; rw [role_recv]; rfl

/-- What the last `r` copies owe lies on the target cells of those steps. -/
theorem owe_pos {c : Dev nD} {g : GSem nD τ sig} {u : Unit} : ∀ {r : ℕ}, 0 < owe c r g u →
    ∃ s, s < r ∧ g = recvCell (mate (back s) c) (back s)
  | 0, h => absurd h (Nat.lt_irrefl 0)
  | r + 1, h => by
    by_cases h0 : 0 < owe c r g u
    · obtain ⟨s, hs, e⟩ := owe_pos h0
      exact ⟨s, by omega, e⟩
    · refine ⟨r, by omega, (Pipeline.tallyAt_pos (ι := ()) (k := N) (i := u) ?_).1⟩
      rw [show owe c (r + 1) = owe c r + tallyAt (recvCell (mate (back r) c) (back r)) () N from rfl, Pi.add_apply, Finsupp.add_apply] at h
      omega

/-- What is owed at launch lies on target cells and barrier cells. -/
theorem O₀_pos {c : Dev nD} {g : GSem nD τ sig} {u : Unit} (h : 0 < O₀ c g u) :
    (∃ d j, g = recvCell d j) ∨ ∃ d, g = barCell d := by
  unfold O₀ O₁ O₂ O₃ at h
  simp only [Pi.add_apply, Finsupp.add_apply] at h
  by_cases h0 : 0 < owe c 16 g u
  · obtain ⟨s, -, e⟩ := owe_pos h0
    exact .inl ⟨_, _, e⟩
  · by_contra hn
    have hb (a : Fin 4) : tallyAt (barCell (peer a c)) () 1 g u = 0 :=
      Nat.eq_zero_of_not_pos fun hp => hn (.inr ⟨_, (Pipeline.tallyAt_pos hp).1⟩)
    rw [hb, hb, hb, hb] at h
    omega

omit [FloatOps F] in
/-- A cell of `c` at or below level `b` may be waited on while everything owed lies above `b`. -/
theorem mayWait_of (c : Dev nD) (sm : SemLoc sig) (O : CellTallies nD τ sig Unit) (b : ℕ)
    (hb : lv ((c : Thread nD τ), sm) () ≤ b) (hO : ∀ g u, 0 < O g u → g.1.2 = .tc ∧ b < lv g ()) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

omit [FloatOps F] in
/-- A staging cell may be waited on owing everything, or nothing. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine mayWait_of c _ _ 0 (by unfold lv; rw [hq]; exact le_refl _) fun g u hg => ?_
    rcases O₀_pos hg with ⟨d, j, rfl⟩ | ⟨d, rfl⟩
    · exact ⟨rfl, by rw [lv_recv]; omega⟩
    · exact ⟨rfl, by rw [lv_bar]; omega⟩
  · rw [MayWait_zero]; iintro -; iempintro

omit [FloatOps F] in
/-- The barrier may be waited on owing every copy. -/
theorem mayWait_bar (c : Dev nD) : (levAts L lv : sProp 𝕄) ⊢ MayWait (c : Thread nD τ) (.reg barS) () (owe c 16) :=
  mayWait_of c _ _ 1 (le_refl _) fun g u hg => by
    obtain ⟨s, -, rfl⟩ := owe_pos hg
    exact ⟨rfl, by rw [lv_recv]; omega⟩

omit [FloatOps F] in
/-- The cells of step `j` may be waited on owing the copies of the steps a round later and after. -/
theorem mayWait_step (c : Dev nD) (j : Fin 16) (sm : SemLoc sig) (h : sm = .dma (sSem j) ∨ sm = .dma (vSem j)) :
    (levAts L lv : sProp 𝕄) ⊢ MayWait (c : Thread nD τ) sm () (owe c (12 - j.val)) :=
  mayWait_of c _ _ (2 + j.val)
    (by
      rcases h with rfl | rfl
      · rw [lv_send]; omega
      · rw [lv_recv])
    fun g u hg => by
      obtain ⟨s, hs, rfl⟩ := owe_pos hg
      refine ⟨rfl, ?_⟩
      rw [lv_recv]
      show 2 + j.val < 2 + (15 - s)
      omega

end Cert.KernelIdeal.Doubling

end
-- ==== Proof.Contents.lean ====
/-
The contents of the pieces: what a copy lands and what a fold stores, read by row and column.
-/
module

public import proofs.«01_k».proof.Proof.Protocol
public import Idealize.ShloMosaic.Lib.Ring

@[expose] public section

noncomputable section

namespace Cert.KernelIdeal.Doubling

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The elements of a piece and of a slot -/

theorem oP_set (p : Fin 4) : (oP p).view.set = (rO p).set := View.set_slice_whole cc0_stg1_0 (rO p)
theorem cP_set (k p : Fin 4) : (cP k p).view.set = (rC k p).set :=
  (View.set_reshape _ _).trans (View.set_slice_whole cc0_scratch0 (rC k p))

/-- The element of piece `p` under row `x 0` and column `x 1`. -/
abbrev oE (p : Fin 4) (x : S64x256.Idx) : S256x256.Idx := (oP p).view.emb x
/-- The element of landing slot `(k, p)` under them. -/
abbrev cE (k p : Fin 4) (x : S64x256.Idx) : S4x256x256.Idx := (cP k p).view.emb x

theorem oE_row (p : Fin 4) (x : S64x256.Idx) : (oE p x 0).val = 64 * p.val + (x 0).val := by
  show 64 * p.val + 1 * (x 0).val = _; rw [Nat.one_mul]
theorem oE_col (p : Fin 4) (x : S64x256.Idx) : (oE p x 1).val = (x 1).val := by
  show 0 + 1 * (x 1).val = _; omega

/-- A slot's index is a piece's, with a leading axis of one. -/
theorem squeezed (x : S64x256.Idx) (h : S64x256.numel = S1x64x256.numel) :
    Shape.reshapeEquiv h x = (Fin.cons (0 : Fin 1) x : S1x64x256.Idx) := Shape.reshapeEquiv_cons_one h x

theorem cE_eq (k p : Fin 4) (x : S64x256.Idx) : cE k p x = (rC k p).emb (Fin.cons (0 : Fin 1) x : S1x64x256.Idx) :=
  congrArg (rC k p).emb (squeezed x _)

theorem cE_round (k p : Fin 4) (x : S64x256.Idx) : (cE k p x 0).val = k.val := by
  rw [cE_eq]; show k.val + 1 * 0 = _; omega
theorem flat_cE (k p : Fin 4) (x : S64x256.Idx) : flat (cE k p x) = oE p x := by
  rw [cE_eq]; funext a
  match a with
  | 0 => rfl
  | 1 => rfl

theorem prow_oE (p : Fin 4) (x : S64x256.Idx) : prow (oE p x) = p :=
  Fin.ext (by
    show (oE p x 0).val / 64 = p.val
    have h : (x 0).val < 64 := (x 0).isLt
    rw [oE_row]; omega)

theorem ofNat_val (k : Fin 4) : Fin.ofNat 4 k.val = k := Fin.ext (Nat.mod_eq_of_lt k.isLt)

variable (X : Dev nD → Arr F)

/-- The landing buffer at an element of slot `(k, p)`: the partner's running sum. -/
theorem CM_cE (c : Dev nD) (k p : Fin 4) (x : S64x256.Idx) : CM X c (cE k p x) = V X k.val (peer (k + p) c) (oE p x) := by
  unfold CM
  rw [flat_cE, cE_round, ofNat_val, prow_oE]

/-- The running sum after round `k` at an element of piece `p`. -/
theorem V_oE (c : Dev nD) (k p : Fin 4) (x : S64x256.Idx) :
    V X (k.val + 1) c (oE p x) = FloatOps.addf (V X k.val c (oE p x)) (V X k.val (peer (k + p) c) (oE p x)) := by
  show FloatOps.addf _ (V X k.val (peer (Fin.ofNat 4 k.val + prow (oE p x)) c) (oE p x)) = _
  rw [ofNat_val, prow_oE]

/-! ## A copy and a fold -/

/-- A copy of piece `p` before round `k` lands what its target's landing buffer is to hold there. -/
theorem landed_eq (c : Dev nD) (k p : Fin 4) (f : S4x256x256.Idx → Elt F .bf16) :
    ∀ i ∈ (cP k p).view.set, (cP k p).view.write (Elt F) f ((oP p).view.read (Elt F) (V X k.val c)) Finset.univ i
      = CM X (peer (k + p) c) i := by
  intro i hi
  obtain ⟨x, -, rfl⟩ := Finset.mem_map.mp hi
  rw [View.write_emb_of_mem _ _ (Finset.mem_univ x)]
  refine Eq.trans ?_ (CM_cE X (peer (k + p) c) k p x).symm
  rw [peer_peer]; rfl

/-- A fold of piece `p` in round `k` stores the running sum after the round. -/
theorem folded_eq (c : Dev nD) (k p : Fin 4) :
    ∀ i ∈ (oP p).view.set, (oM.access (rO p)).write (Elt F) (V X k.val c)
        (k0_pay2 ((oM.access (rO p)).read (Elt F) (V X k.val c)) ((cM.access (rC k p)).read (Elt F) (CM X c))) Finset.univ i
      = V X (k.val + 1) c i := by
  intro i hi
  obtain ⟨x, -, rfl⟩ := Finset.mem_map.mp hi
  refine (View.write_emb_of_mem (v := oM.access (rO p)) _ _ (Finset.mem_univ x)).trans ?_
  refine Eq.trans ?_ (V_oE X c k p x).symm
  rw [← CM_cE]
  show FloatOps.addf _ _ = _
  refine congrArg₂ FloatOps.addf ?_ rfl
  show (oM.access (rO p)).read (Elt F) (V X k.val c) (Shape.reshapeEquiv _ x) = _
  rw [Shape.reshapeEquiv_self]; rfl

omit [FloatOps F] in
/-- A piece, as the view the kernel copies from holds it. -/
theorem piece_eq (c : Dev nD) (p : Fin 4) (f : Arr F) :
    piece c p f = ((oP p).view.loc (c : Thread nD τ) ↦[(oP p).view.set]{fullShare} f : sProp 𝕄) := by
  rw [oP_set]; rfl
omit [FloatOps F] in
/-- A slot, as the view the kernel copies to holds it. -/
theorem slot_eq (c : Dev nD) (j : Fin 16) (f : S4x256x256.Idx → Elt F .bf16) :
    slot c j f = ((cP (kk j) (pp j)).view.loc (c : Thread nD τ) ↦[(cP (kk j) (pp j)).view.set]{fullShare} f : sProp 𝕄) := by
  rw [cP_set]; rfl

/-! ## The buffers by their pieces and slots -/

theorem pieces_disjoint (p p' : Fin 4) (h : p ≠ p') : Disjoint (rO p).set (rO p').set := by
  refine Rect.unit_disjoint 0 ?_
  have := Fin.val_ne_of_ne h
  show 64 * p.val + 64 ≤ 64 * p'.val ∨ 64 * p'.val + 64 ≤ 64 * p.val
  omega

theorem pieces_cover (i : S256x256.Idx) : ∃ p, i ∈ (rO p).set := by
  refine ⟨prow i, ?_⟩
  refine Rect.mem_set_unit.mpr fun a => ?_
  have h0 : (i 0).val < 256 := (i 0).isLt
  have h1 : (i 1).val < 256 := (i 1).isLt
  match a with
  | 0 => show 64 * ((i 0).val / 64) ≤ (i 0).val ∧ (i 0).val < 64 * ((i 0).val / 64) + 64; omega
  | 1 => show 0 ≤ (i 1).val ∧ (i 1).val < 0 + 256; omega

theorem slots_disjoint (j j' : Fin 16) (h : j ≠ j') :
    Disjoint (rC (kk j) (pp j)).set (rC (kk j') (pp j')).set := by
  have hv := Fin.val_ne_of_ne h
  by_cases hk : j.val / 4 = j'.val / 4
  · refine Rect.unit_disjoint 1 ?_
    show 64 * (j.val % 4) + 64 ≤ 64 * (j'.val % 4) ∨ 64 * (j'.val % 4) + 64 ≤ 64 * (j.val % 4)
    omega
  · refine Rect.unit_disjoint 0 ?_
    show j.val / 4 + 1 ≤ j'.val / 4 ∨ j'.val / 4 + 1 ≤ j.val / 4
    omega

theorem slots_cover (i : S4x256x256.Idx) : ∃ j : Fin 16, i ∈ (rC (kk j) (pp j)).set := by
  have h0 : (i 0).val < 4 := (i 0).isLt
  have h1 : (i 1).val < 256 := (i 1).isLt
  have h2 : (i 2).val < 256 := (i 2).isLt
  refine ⟨⟨4 * (i 0).val + (i 1).val / 64, by omega⟩, ?_⟩
  refine Rect.mem_set_unit.mpr fun a => ?_
  match a with
  | 0 =>
    show (4 * (i 0).val + (i 1).val / 64) / 4 ≤ (i 0).val ∧ (i 0).val < (4 * (i 0).val + (i 1).val / 64) / 4 + 1
    omega
  | 1 =>
    show 64 * ((4 * (i 0).val + (i 1).val / 64) % 4) ≤ (i 1).val ∧ (i 1).val < 64 * ((4 * (i 0).val + (i 1).val / 64) % 4) + 64
    omega
  | 2 => show 0 ≤ (i 2).val ∧ (i 2).val < 0 + 256; omega

omit [FloatOps F] in
/-- The output held whole is its four pieces. -/
theorem out_pieces (c : Dev nD) (f : Arr F) :
    ((((c : Thread nD τ).loc cc0_stg1_0) ↦{fullShare} f) : sProp 𝕄) = bigSep Finset.univ fun p => piece c p f := by
  unfold piece
  exact Ring.pointsTo_blocks (ℓ := (c : Thread nD τ).loc cc0_stg1_0) (fun p : Fin 4 => (rO p).set) pieces_disjoint
    (Finset.eq_univ_of_forall fun i => by
      obtain ⟨b, hb⟩ := pieces_cover i
      exact Finset.mem_biUnion.mpr ⟨b, Finset.mem_univ b, hb⟩) f

omit [FloatOps F] in
/-- The landing buffer held whole is its sixteen slots. -/
theorem comm_slots (c : Dev nD) (f : S4x256x256.Idx → Elt F .bf16) :
    ((((c : Thread nD τ).loc cc0_scratch0) ↦{fullShare} f) : sProp 𝕄) = bigSep Finset.univ fun j => slot c j f := by
  unfold slot
  exact Ring.pointsTo_blocks (ℓ := (c : Thread nD τ).loc cc0_scratch0) (fun j : Fin 16 => (rC (kk j) (pp j)).set) slots_disjoint
    (Finset.eq_univ_of_forall fun i => by
      obtain ⟨b, hb⟩ := slots_cover i
      exact Finset.mem_biUnion.mpr ⟨b, Finset.mem_univ b, hb⟩) f

end Cert.KernelIdeal.Doubling

end
-- ==== Proof.Body.lean ====
/-
The kernel, step by step, at a symbolic device.

Between two steps a device holds, for every one of the sixteen exchanges, one of three things: what it needs to send
(`Idle`), what it needs to wait (`Flight`), or what an exchange leaves (`Done`). A copy turns the first into the second
and a fold the second into the third; each is proved once, for a symbolic exchange.
-/
module

public import proofs.«01_k».proof.Proof.Contents
public import Idealize.ShloMosaic.Lib.Ring.AtN

@[expose] public section

noncomputable section

namespace Cert.KernelIdeal.Doubling

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A family of resources with one member exchanged for another. -/
theorem bigSep_swap {M : Type*} [URA M] {I : Type} [Fintype I] [DecidableEq I] (Φ Ψ : I → sProp M) (i : I)
    (h : ∀ j, j ≠ i → Φ j = Ψ j) : bigSep Finset.univ Φ ⊢ iprop(Φ i ∗ (Ψ i -∗ bigSep Finset.univ Ψ)) := by
  have e (Θ : I → sProp M) (hΘ : ∀ j, j ≠ i → Θ j = Ψ j) :
      bigSep Finset.univ Θ = iprop(Θ i ∗ bigSep (Finset.univ.erase i) Ψ) :=
    (bigSep_erase (Finset.mem_univ i)).trans
      (congrArg (fun R => iprop(Θ i ∗ R)) (bigSep_congr fun j hj => hΘ j (Finset.ne_of_mem_erase hj)))
  rw [e Φ h, e Ψ fun _ _ => rfl]
  iintro ⟨H1, H2⟩
  isplitl [H1]; · iexact H1
  iintro H; isplitl [H] <;> iassumption

/-! ## The cells, and what is known of them throughout -/

/-- A device's cells: the barrier's, the copies' own, the copies' targets'. -/
abbrev CellIx : Type := Unit ⊕ (Fin 16 ⊕ Fin 16)

abbrev osem : Fin 16 ⊕ Fin 16 → SemLoc sig := Sum.elim (fun j => .dma (sSem j)) (fun j => .dma (vSem j))
abbrev csem : CellIx → SemLoc sig := Sum.elim (fun _ => .reg barS) osem
abbrev kcell (k : Dev nD × CellIx) : GSem nD τ sig := ((k.1 : Thread nD τ), csem k.2)

variable (X : Dev nD → Arr F) (K : Dev nD × CellIx → ℕ)

/-- A cell keeps the schedule, and stands at its one round. -/
def known (k : Dev nD × CellIx) : sProp 𝕄 := iprop(cellInv ER (sched X) (K k) (kcell k) ∗ reached ER (kcell k) 0)

instance known_persistent (k : Dev nD × CellIx) : Persistent (known X K k) := by unfold known; infer_instance

/-- Every cell does. -/
def records : sProp 𝕄 := bigSep Finset.univ (known X K)

instance records_persistent : Persistent (records X K) := by unfold records; infer_instance

theorem record (k : Dev nD × CellIx) : records X K ⊢ known X K k := bigSep_elim (Finset.mem_univ k)

/-- What device `c` owes, whatever it has waited on. -/
def owing (c : Dev nD) (O : CellTallies nD τ sig Unit) : sProp 𝕄 := iprop(∃ W, owes (c : Thread nD τ) O W)

/-! ## The states of an exchange -/

/-- Before it is sent: the duties of its two cells, the positions on the device's own two, and the credit to wait for. -/
def Ready (c : Dev nD) (j : Fin 16) : sProp 𝕄 :=
  iprop(dutyTok ER (sendCell c j) 0 (0 : Fin 4) ∗ dutyTok ER (recvCell (mate j c) j) 0 (0 : Fin 4)
    ∗ atPos ER (sendCell c j) 0 ∅ 0 ∗ atPos ER (recvCell c j) 0 ∅ 0 ∗ cred (tallyAt (recvCell c j) () N))
/-- And, once the partners are known to have arrived, the landing slot at the partner. -/
def Idle (c : Dev nD) (j : Fin 16) : sProp 𝕄 := iprop(Ready c j ∗ ∃ f, slot (mate j c) j f)
/-- Once sent: the two credits to wait for, and the positions. -/
def Flight (c : Dev nD) (j : Fin 16) : sProp 𝕄 :=
  iprop(cred (tallyAt (sendCell c j) () N) ∗ cred (tallyAt (recvCell c j) () N)
    ∗ atPos ER (sendCell c j) 0 ∅ 0 ∗ atPos ER (recvCell c j) 0 ∅ 0)
/-- Once folded: both semaphores at zero, and the landing slot as it was left. -/
def Done (c : Dev nD) (j : Fin 16) : sProp 𝕄 :=
  iprop(slot c j (CM X c) ∗ semVal (sendCell c j) 0 ∗ semVal (recvCell c j) 0)

/-- The state of exchange `i` when `d` are folded and `s` are sent. -/
def stage (c : Dev nD) (d s : ℕ) (i : Fin 16) : sProp 𝕄 :=
  if i.val < d then Done X c i else if i.val < s then Flight c i else Idle c i
/-- All of them. -/
def Inv (c : Dev nD) (d s : ℕ) : sProp 𝕄 := bigSep Finset.univ (stage X c d s)

/-- Piece `p` of the result, once `d` exchanges are folded. -/
def home (c : Dev nD) (d : ℕ) (p : Fin 4) : sProp 𝕄 := if 12 + p.val < d then piece c p (V X 4 c) else iprop(emp)
/-- The pieces finished. -/
def Out (c : Dev nD) (d : ℕ) : sProp 𝕄 := bigSep Finset.univ (home X c d)

theorem inv_send (c : Dev nD) (i : Fin 16) {d : ℕ} (h : d ≤ i.val) :
    Inv X c d i.val ⊢ iprop(Idle c i ∗ (Flight c i -∗ Inv X c d (i.val + 1))) := by
  have h1 : stage X c d i.val i = Idle c i := by unfold stage; rw [if_neg (by omega), if_neg (by omega)]
  have h2 : stage X c d (i.val + 1) i = Flight c i := by unfold stage; rw [if_neg (by omega), if_pos (by omega)]
  rw [← h1, ← h2]
  refine bigSep_swap _ _ i fun j hj => ?_
  have := Fin.val_ne_of_ne hj
  unfold stage
  simp only [show j.val < i.val + 1 ↔ j.val < i.val by omega]

theorem inv_fold (c : Dev nD) (i : Fin 16) {s : ℕ} (h : i.val < s) :
    Inv X c i.val s ⊢ iprop(Flight c i ∗ (Done X c i -∗ Inv X c (i.val + 1) s)) := by
  have h1 : stage X c i.val s i = Flight c i := by unfold stage; rw [if_neg (by omega), if_pos h]
  have h2 : stage X c (i.val + 1) s i = Done X c i := by unfold stage; rw [if_pos (by omega)]
  rw [← h1, ← h2]
  refine bigSep_swap _ _ i fun j hj => ?_
  have := Fin.val_ne_of_ne hj
  unfold stage
  simp only [show j.val < i.val + 1 ↔ j.val < i.val by omega]

/-- A last-round fold finishes its piece. -/
theorem out_fold (c : Dev nD) (i : Fin 16) (h : 12 ≤ i.val) :
    iprop(Out X c i.val ∗ piece c (pp i) (V X 4 c)) ⊢ Out X c (i.val + 1) := by
  have h1 : home X c i.val (pp i) = iprop(emp) := if_neg (by show ¬12 + i.val % 4 < i.val; omega)
  have h2 : home X c (i.val + 1) (pp i) = piece c (pp i) (V X 4 c) := if_pos (by show 12 + i.val % 4 < i.val + 1; omega)
  rw [← h2]
  unfold Out
  iintro ⟨H, Hp⟩
  ihave H' := (bigSep_swap (home X c i.val) (home X c (i.val + 1)) (pp i) fun p hp => by
    have hp' : p.val ≠ i.val % 4 := Fin.val_ne_of_ne hp
    unfold home
    simp only [show 12 + p.val < i.val + 1 ↔ 12 + p.val < i.val by omega]) $$ H
  icases H' with ⟨-, H'⟩
  iapply H'; iexact Hp

/-! ## One operation each -/

/-- Every copy has the same credit, on its target's cell and on its own. -/
theorem copy_amount (k p : Fin 4) : (cP k p).view.amount (.dma (vS k p)) = N := rfl
theorem own_amount (p : Fin 4) : (oP p).view.dmaCredit = N := rfl

/-- The credit of exchange `i`, and what is owed after it. -/
theorem owe_peel (c : Dev nD) (i : Fin 16) :
    owe c (16 - i.val) = owe c (15 - i.val) + tallyAt (recvCell (mate i c) i) () N := by
  have e : 16 - i.val = (15 - i.val) + 1 := by omega
  have b : back (15 - i.val) = i := Fin.ext (by show 15 - (15 - i.val) = i.val; omega)
  rw [e]
  show owe c (15 - i.val) + tallyAt (recvCell (mate (back (15 - i.val)) c) (back (15 - i.val))) () N = _
  rw [b]

/-- A signal to the partner across axis `a`. -/
theorem wp_signal_peer (c n : Dev nD) (a : Fin 4) (hn : n = peer a c) (O O' : CellTallies nD τ sig Unit)
    (hO : O' = O + tallyAt (barCell (peer a c)) () 1) (Q : PUnit → sProp 𝕄) :
    iprop(records X K ∗ dutyTok ER (barCell (peer a c)) 0 a ∗ barPay (peer a c) a ∗ owing c O' ∗ (owing c O -∗ Q ⟨⟩))
      ⊢ wp frame (wpE (defs₀ (F := F)) 𝒱₀ (c : Thread nD τ) none) Set.univ (semSignalWord n barS 1#32) Q := by
  subst hn
  unfold owing semSignalWord
  iintro ⟨#HR, Ht, Hp, ⟨%W, HO⟩, Hk⟩
  ihave HI := (record X K (peer a c, .inl ())) $$ HR
  unfold known
  icases HI with ⟨#HI, #Hr⟩
  iapply (Rounds.wp_signal 𝒱₀ ER (sched X) (c : Thread nD τ) none (dst := (peer a c : Thread nD τ)) (κ := K (peer a c, .inl ()))
      (d := a) (by rw [duties_bar]; exact Finset.mem_univ _) ((amount_bar X (peer a c) a).trans (by decide)) () O hO)
    $$ [HO Ht Hp]
  · isplitr; · iexact HI
    isplitl [HO]; · iexact HO
    isplitl [Ht]; · iexact Ht
    isplitl [Hp]; · rw [payload_bar]; iexact Hp
    iexact Hr
  iintro HO
  rw [wp_ret]; imodintro
  iapply Hk; iexists W; iexact HO

/-- The copy of exchange `i`. -/
theorem wp_copy (c n : Dev nD) (i : Fin 16) (hn : n = mate i c) (Q : PUnit → sProp 𝕄) :
    iprop(records X K ∗ Idle c i ∗ piece c (pp i) (V X (kk i).val c) ∗ owing c (owe c (16 - i.val))
        ∗ ((Flight c i ∗ owing c (owe c (15 - i.val))) -∗ Q ⟨⟩))
      ⊢ wp frame (wpE (defs₀ (F := F)) 𝒱₀ (c : Thread nD τ) none) Set.univ (send (kk i) (pp i) n) Q := by
  subst hn
  unfold owing Idle Ready Flight send Prog.lift
  simp only [piece_eq, slot_eq]
  iintro ⟨#HR, ⟨⟨HtS, HtV, HaS, HaV, Hc⟩, ⟨%f, Hs⟩⟩, Hp, ⟨%W, HO⟩, Hk⟩
  ihave HIS := (record X K (c, .inr (.inl i))) $$ HR
  ihave HIV := (record X K (mate i c, .inr (.inr i))) $$ HR
  unfold known
  icases HIS with ⟨#HIS, #HrS⟩
  icases HIV with ⟨#HIV, #HrV⟩
  iapply (Rounds.wp_send_pointsTo 𝒱₀ ER (sched X) (c : Thread nD τ) none (c' := (mate i c : Thread nD τ))
      (κ₁ := K (c, .inr (.inl i))) (κ₂ := K (mate i c, .inr (.inr i)))
      (r₁ := 0) (r₂ := 0) (d₁ := 0) (d₂ := 0) (fd := f)
      (by rw [duties_send]; exact Finset.mem_singleton_self _) (by rw [duties_recv]; exact Finset.mem_singleton_self _)
      () () N (copy_amount (kk i) (pp i)) (amount_send X c i 0) (amount_recv X (mate i c) i 0) (owe c (15 - i.val)) (owe_peel c i) (W := W)
      (by rw [payload_send, sendPay, piece_eq])
      (by
        rw [payload_recv, recvPay, slot_eq]
        exact Entails.of_eq (pointsTo_congr (landed_eq X c (kk i) (pp i) f)))) $$ [HtS HtV Hs Hp HO]
  · isplitr; · iexact HIS
    isplitr; · iexact HIV
    isplitl [Hp]; · iexact Hp
    isplitl [Hs]; · iexact Hs
    isplitl [HO]; · iexact HO
    isplitl [HtS]; · iexact HtS
    isplitr; · iexact HrS
    isplitl [HtV]; · iexact HtV
    iexact HrV
  iintro ⟨HcS, HO⟩
  rw [wp_ret]; imodintro
  iapply Hk
  isplitl [HcS HaS HaV Hc]
  · isplitl [HcS]; · iexact HcS
    isplitl [Hc]; · iexact Hc
    isplitl [HaS] <;> iassumption
  iexists W; iexact HO

/-- The fold of exchange `i`: it waits for the copy sent and for the copy received, and adds what landed. -/
theorem wp_add (c : Dev nD) (i : Fin 16) (Q : PUnit → sProp 𝕄) :
    iprop(records X K ∗ levAts L lv ∗ Flight c i ∗ owing c (owe c (12 - i.val))
        ∗ ((Done X c i ∗ piece c (pp i) (V X ((kk i).val + 1) c) ∗ owing c (owe c (12 - i.val))) -∗ Q ⟨⟩))
      ⊢ wp frame (wpE (defs₀ (F := F)) 𝒱₀ (c : Thread nD τ) none) Set.univ (fold (kk i) (pp i)) Q := by
  unfold owing Flight Done fold
  simp only [Prog.lift, Prog.bind_op, Prog.bind_ret]
  iintro ⟨#HR, #Hlev, ⟨HcS, HcV, HaS, HaV⟩, ⟨%W, HO⟩, Hk⟩
  ihave HIS := (record X K (c, .inr (.inl i))) $$ HR
  ihave HIV := (record X K (c, .inr (.inr i))) $$ HR
  unfold known
  icases HIS with ⟨#HIS, #HrS⟩
  icases HIV with ⟨#HIV, #HrV⟩
  -- the copy sent has left: its piece comes back
  iapply (Rounds.wp_wait_rest_token 𝒱₀ ER (sched X) (c : Thread nD τ) none (κ := K (c, .inr (.inl i)))
      (wpE_waitDma2_eq 𝒱₀ (c : Thread nD τ) none Set.univ) (Set.mem_univ _) () (O := owe c (12 - i.val)) (W := W) (R := 0) (m := 0) (T := ∅)
      (by rw [Nat.zero_add, expect_send, own_amount])) $$ [HcS HO HaS]
  · isplitr; · iexact HIS
    isplitl [HcS]; · iexact HcS
    isplitl [HO]; · iexact HO
    isplitr; · iapply (mayWait_step c i _ (.inl rfl)); iexact Hlev
    iexact HaS
  iintro ⟨HO, HaS, -, Hpay⟩
  ihave Hp := (Entails.of_eq (rest_send X c i)) $$ Hpay
  -- the copy received has landed: its slot holds the partner's piece
  iapply (Rounds.wp_wait_rest_token 𝒱₀ ER (sched X) (c : Thread nD τ) none (κ := K (c, .inr (.inr i)))
      (wpE_waitDma2_eq 𝒱₀ (c : Thread nD τ) none Set.univ) (Set.mem_univ _) () (O := owe c (12 - i.val))
      (W := insert (SemLoc.dma (sSem i), ()) W) (R := 0) (m := 0) (T := ∅)
      (by rw [Nat.zero_add, expect_recv])) $$ [HcV HO HaV]
  · isplitr; · iexact HIV
    isplitl [HcV]; · iexact HcV
    isplitl [HO]; · iexact HO
    isplitr; · iapply (mayWait_step c i _ (.inr rfl)); iexact Hlev
    iexact HaV
  iintro ⟨HO, HaV, -, Hpay⟩
  ihave Hs := (Entails.of_eq (rest_recv X c i)) $$ Hpay
  -- both cells close
  imod (Rounds.cell_close ER (sched X) (Set.mem_univ (K (c, .inr (.inl i)))) (fun h => h) (R := 0 + 1) (duties_later X (sendCell c i))) $$ [HaS] with HzS
  · isplitr; · iexact HIS
    iexact HaS
  imod (Rounds.cell_close ER (sched X) (Set.mem_univ (K (c, .inr (.inr i)))) (fun h => h) (R := 0 + 1) (duties_later X (recvCell c i))) $$ [HaV] with HzV
  · isplitr; · iexact HIV
    iexact HaV
  -- the two loads, the load nothing reads, and the store
  unfold sendPay recvPay piece slot
  iapply (wp_load_rect 𝒱₀ (c : Thread nD τ) none Set.univ (m := oM) (r := rO (pp i)) (subset_of_eq (oP_set (pp i)))) $$ Hp
  iintro Hp
  iapply (wp_load_rect 𝒱₀ (c : Thread nD τ) none Set.univ (m := cM) (r := rC (kk i) (pp i))
    (subset_of_eq (View.set_slice_whole cc0_scratch0 _))) $$ Hs
  iintro Hs
  iapply (wp_load_rect 𝒱₀ (c : Thread nD τ) none Set.univ (m := oM) (r := rO (pp i)) (subset_of_eq (oP_set (pp i)))) $$ Hp
  iintro Hp
  iapply (wp_store 𝒱₀ (c : Thread nD τ) none Set.univ (m := oM) (r := rO (pp i)) (Mk := Finset.univ)
    (subset_of_eq (oP_set (pp i)))) $$ Hp
  iintro Hp
  rw [wp_ret]; imodintro
  ihave Hp := (Entails.of_eq (pointsTo_congr fun e he => folded_eq X c (kk i) (pp i) e ((oP_set (pp i)).symm ▸ he))) $$ Hp
  iapply Hk
  isplitl [Hs HzS HzV]
  · isplitl [Hs]; · iexact Hs
    isplitl [HzS] <;> iassumption
  isplitl [Hp]; · iexact Hp
  iexists _; iexact HO

/-! ## The steps, and the first copies -/

/-- What device `c` holds when `d` exchanges are folded. -/
def State (c : Dev nD) (d : ℕ) : sProp 𝕄 := iprop(Inv X c d (d + 4) ∗ Out X c d ∗ owing c (owe c (12 - d)))

/-- A step that sends the piece on. -/
theorem wp_step_on (c : Dev nD) (n : Fin 16 → Dev nD) (hn : ∀ j, n j = mate j c) (i i' : Fin 16) (hi : i'.val = i.val + 4)
    (Q : PUnit → sProp 𝕄) :
    iprop(records X K ∗ levAts L lv ∗ State X c i.val ∗ (State X c (i.val + 1) -∗ Q ⟨⟩))
      ⊢ wp frame (wpE (defs₀ (F := F)) 𝒱₀ (c : Thread nD τ) none) Set.univ
          (fold (kk i) (pp i) >>= fun _ => send (kk i') (pp i') (n i')) Q := by
  have hk : (kk i).val + 1 = (kk i').val := by show i.val / 4 + 1 = i'.val / 4; omega
  have hp : pp i = pp i' := Fin.ext (by show i.val % 4 = i'.val % 4; omega)
  have ho : 12 - i.val = 16 - i'.val := by omega
  have ho' : 15 - i'.val = 12 - (i.val + 1) := by omega
  have hout : Out X c i.val = Out X c (i.val + 1) := by
    unfold Out
    refine bigSep_congr fun p _ => ?_
    unfold home
    rw [if_neg (by omega), if_neg (by omega)]
  have hS : iprop(Inv X c (i.val + 1) (i'.val + 1) ∗ Out X c i.val ∗ owing c (owe c (15 - i'.val))) ⊢ State X c (i.val + 1) := by
    unfold State
    rw [hout, ho', hi, show i.val + 4 + 1 = i.val + 1 + 4 by omega]
  rw [wp_bind]
  unfold State at *
  iintro ⟨#HR, #Hlev, ⟨HI, Hout, HO⟩, Hk⟩
  ihave HI' := (inv_fold X c i (s := i.val + 4) (by omega)) $$ HI
  icases HI' with ⟨HF, HI⟩
  iapply (wp_add X K c i)
  isplitr; · iexact HR
  isplitr; · iexact Hlev
  isplitl [HF]; · iexact HF
  isplitl [HO]; · iexact HO
  iintro ⟨HD, Hp, HO⟩
  ihave HI := HI $$ HD
  rw [← hi]
  ihave HI' := (inv_send X c i' (d := i.val + 1) (by omega)) $$ HI
  icases HI' with ⟨HF, HI⟩
  rw [hk, hp, ho]
  iapply (wp_copy X K c (n i') i' (hn i'))
  isplitr; · iexact HR
  isplitl [HF]; · iexact HF
  isplitl [Hp]; · iexact Hp
  isplitl [HO]; · iexact HO
  iintro ⟨HF, HO⟩
  ihave HI := HI $$ HF
  iapply Hk
  iapply hS
  isplitl [HI]; · iexact HI
  isplitl [Hout] <;> iassumption

/-- A step of the last round. -/
theorem wp_step_last (c : Dev nD) (i : Fin 16) (hi : 12 ≤ i.val) (Q : PUnit → sProp 𝕄) :
    iprop(records X K ∗ levAts L lv ∗ State X c i.val ∗ (State X c (i.val + 1) -∗ Q ⟨⟩))
      ⊢ wp frame (wpE (defs₀ (F := F)) 𝒱₀ (c : Thread nD τ) none) Set.univ (fold (kk i) (pp i)) Q := by
  have hk : (kk i).val + 1 = 4 := by show i.val / 4 + 1 = 4; omega
  have ho : 12 - i.val = 12 - (i.val + 1) := by omega
  have hinv : Inv X c (i.val + 1) (i.val + 4) = Inv X c (i.val + 1) (i.val + 1 + 4) := by
    unfold Inv
    refine bigSep_congr fun j _ => ?_
    unfold stage
    rw [if_pos (show j.val < i.val + 4 by omega), if_pos (show j.val < i.val + 1 + 4 by omega)]
  have hS : iprop(Inv X c (i.val + 1) (i.val + 4) ∗ (Out X c i.val ∗ piece c (pp i) (V X ((kk i).val + 1) c)) ∗ owing c (owe c (12 - i.val)))
      ⊢ State X c (i.val + 1) := by
    unfold State
    rw [hinv, hk, ← ho]
    exact sep_mono_right (sep_mono_left (out_fold X c i hi))
  unfold State at *
  iintro ⟨#HR, #Hlev, ⟨HI, Hout, HO⟩, Hk⟩
  ihave HI' := (inv_fold X c i (s := i.val + 4) (by omega)) $$ HI
  icases HI' with ⟨HF, HI⟩
  iapply (wp_add X K c i)
  isplitr; · iexact HR
  isplitr; · iexact Hlev
  isplitl [HF]; · iexact HF
  isplitl [HO]; · iexact HO
  iintro ⟨HD, Hp, HO⟩
  ihave HI := HI $$ HD
  iapply Hk
  iapply hS
  isplitl [HI]; · iexact HI
  isplitl [Hout Hp]; · isplitl [Hout] <;> iassumption
  iexact HO

/-- Any step. -/
theorem wp_step (c : Dev nD) (n : Fin 16 → Dev nD) (hn : ∀ j, n j = mate j c) (i : Fin 16) (Q : PUnit → sProp 𝕄) :
    iprop(records X K ∗ levAts L lv ∗ State X c i.val ∗ (State X c (i.val + 1) -∗ Q ⟨⟩))
      ⊢ wp frame (wpE (defs₀ (F := F)) 𝒱₀ (c : Thread nD τ) none) Set.univ (step n i) Q := by
  unfold step next
  by_cases h : i.val + 4 < 16
  · rw [dif_pos h]
    exact wp_step_on X K c n hn i ⟨i.val + 4, h⟩ rfl Q
  · rw [dif_neg h, wp_bind]
    unfold sendOpt
    simp only [Prog.pure_eq_ret, wp_ret]
    refine .trans ?_ (wp_step_last X K c i (by omega) _)
    iintro ⟨#HR, #Hlev, HS, Hk⟩
    isplitr; · iexact HR
    isplitr; · iexact Hlev
    isplitl [HS]; · iexact HS
    iintro HS
    imodintro
    iapply Hk; iexact HS

/-- The last `r` steps. -/
theorem wp_steps (c : Dev nD) (n : Fin 16 → Dev nD) (hn : ∀ j, n j = mate j c) (Q : PUnit → sProp 𝕄) : ∀ r, r ≤ 16 →
    (iprop(records X K ∗ levAts L lv ∗ State X c (16 - r) ∗ (State X c 16 -∗ Q ⟨⟩))
      ⊢ wp frame (wpE (defs₀ (F := F)) 𝒱₀ (c : Thread nD τ) none) Set.univ (steps n r) Q)
  | 0, _ => by
    unfold steps
    rw [Prog.pure_eq_ret, wp_ret]
    iintro ⟨-, -, HS, Hk⟩
    imodintro
    iapply Hk; iexact HS
  | r + 1, hr => by
    unfold steps
    rw [wp_bind]
    iintro ⟨#HR, #Hlev, HS, Hk⟩
    iapply (wp_step X K c n hn (back r))
    isplitr; · iexact HR
    isplitr; · iexact Hlev
    isplitl [HS]
    · rw [show 16 - (r + 1) = 15 - r by omega]
      iexact HS
    iintro HS
    iapply (wp_steps c n hn Q r (by omega))
    isplitr; · iexact HR
    isplitr; · iexact Hlev
    isplitl [HS]
    · rw [show 15 - r + 1 = 16 - r by omega]; iexact HS
    iexact Hk

/-- The first copy of each piece. -/
theorem wp_first (c n : Dev nD) (i : Fin 16) (hi : i.val < 4) (hn : n = mate i c) (Q : PUnit → sProp 𝕄) :
    iprop(records X K ∗ Inv X c 0 i.val ∗ piece c (pp i) (X c) ∗ owing c (owe c (16 - i.val))
        ∗ ((Inv X c 0 (i.val + 1) ∗ owing c (owe c (15 - i.val))) -∗ Q ⟨⟩))
      ⊢ wp frame (wpE (defs₀ (F := F)) 𝒱₀ (c : Thread nD τ) none) Set.univ (send (kk i) (pp i) n) Q := by
  have hk : (kk i).val = 0 := by show i.val / 4 = 0; omega
  iintro ⟨#HR, HI, Hp, HO, Hk⟩
  ihave HI' := (inv_send X c i (d := 0) (by omega)) $$ HI
  icases HI' with ⟨HF, HI⟩
  iapply (wp_copy X K c n i hn)
  isplitr; · iexact HR
  isplitl [HF]; · iexact HF
  isplitl [Hp]; · rw [hk]; iexact Hp
  isplitl [HO]; · iexact HO
  iintro ⟨HF, HO⟩
  iapply Hk
  isplitl [HI HF]; · iapply HI; iexact HF
  iexact HO

/-- The four first copies. -/
theorem wp_sends (c : Dev nD) (n : Fin 16 → Dev nD) (hn : ∀ j, n j = mate j c) (Q : PUnit → sProp 𝕄) :
    iprop(records X K ∗ Inv X c 0 0 ∗ (bigSep Finset.univ fun p => piece c p (X c)) ∗ owing c (owe c 16)
        ∗ ((Inv X c 0 4 ∗ owing c (owe c 12)) -∗ Q ⟨⟩))
      ⊢ wp frame (wpE (defs₀ (F := F)) 𝒱₀ (c : Thread nD τ) none) Set.univ (sends n) Q := by
  rw [Ring.bigSep_fin4]
  unfold sends
  simp only [wp_bind]
  iintro ⟨#HR, HI, ⟨Hp0, Hp1, Hp2, Hp3⟩, HO, Hk⟩
  iapply (wp_first X K c (n 0) 0 (by decide) (hn 0))
  isplitr; · iexact HR
  isplitl [HI]; · iexact HI
  isplitl [Hp0]; · iexact Hp0
  isplitl [HO]; · iexact HO
  iintro ⟨HI, HO⟩
  iapply (wp_first X K c (n 1) 1 (by decide) (hn 1))
  isplitr; · iexact HR
  isplitl [HI]; · iexact HI
  isplitl [Hp1]; · iexact Hp1
  isplitl [HO]; · iexact HO
  iintro ⟨HI, HO⟩
  iapply (wp_first X K c (n 2) 2 (by decide) (hn 2))
  isplitr; · iexact HR
  isplitl [HI]; · iexact HI
  isplitl [Hp2]; · iexact Hp2
  isplitl [HO]; · iexact HO
  iintro ⟨HI, HO⟩
  iapply (wp_first X K c (n 3) 3 (by decide) (hn 3))
  isplitr; · iexact HR
  isplitl [HI]; · iexact HI
  isplitl [Hp3]; · iexact Hp3
  isplitl [HO]; · iexact HO
  iintro ⟨HI, HO⟩
  iapply Hk
  isplitl [HI]; · iexact HI
  iexact HO

end Cert.KernelIdeal.Doubling

end
-- ==== Proof.Point.lean ====
/-
The kernel's one grid point: the entry with its barrier, the whole body, and the body obligation of the launch.
-/
module

public import proofs.«01_k».proof.Proof.Body

@[expose] public section

noncomputable section

namespace Cert.KernelIdeal.Doubling

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The entry -/

/-- The landing buffer, at any contents. -/
def comm (c : Dev nD) : sProp 𝕄 := iprop(∃ f, (((c : Thread nD τ).loc cc0_scratch0) ↦{fullShare} f))
/-- The staged shard. -/
def xPts (c : Dev nD) (f : Arr F) : sProp 𝕄 := ((c : Thread nD τ).loc cc0_stg0_0) ↦{fullShare} f
/-- The staged output. -/
def oPts (c : Dev nD) (f : Arr F) : sProp 𝕄 := ((c : Thread nD τ).loc cc0_stg1_0) ↦{fullShare} f

omit [FloatOps F] in
/-- The landing buffer is what the four signals hand over. -/
theorem comm_gifts (c : Dev nD) : (comm c : sProp 𝕄) ⊢ bigSep Finset.univ fun a : Fin 4 => barPay (F := F) (peer a c) a := by
  have h (f) : (bigSep Finset.univ fun j => slot (F := F) c j f) ⊢ bigSep Finset.univ fun a : Fin 4 => barPay (F := F) (peer a c) a := by
    rw [bigSep_fiberwise Finset.univ ax, show Finset.univ.image ax = Finset.univ from by decide]
    refine bigSep_mono fun a _ => bigSep_mono fun j _ => ?_
    rw [peer_peer]
    show (slot c j f : sProp 𝕄) ⊢ iprop(∃ f, slot c j f)
    iintro H; iexists f; iexact H
  unfold comm
  iintro ⟨%f, H⟩
  iapply (h f)
  rw [← comm_slots c f]
  iexact H

theorem off_zero : (![0, 0] : Fin 2 → Nat) = fun _ => 0 := funext fun a => by fin_cases a <;> rfl

theorem read_shard (f : Arr F) : xM.view.readAt (Elt F) rW.toLoadRect f = f := Memref.readAt_unit_zero (Elt F) cc0_stg0_0 off_zero _ f

theorem write_shard (f w : Arr F) : (oM.access rW).write (Elt F) f (k0_pay1 w) Finset.univ = w := by
  refine (Memref.write_access_unit_zero_univ (Elt F) cc0_stg1_0 off_zero _ f _).trans (funext fun i => ?_)
  show w (Shape.reshapeEquiv _ i) = w i
  rw [Shape.reshapeEquiv_self]

variable (X : Dev nD → Arr F) (K : Dev nD × CellIx → ℕ)

/-- The entry: signals to the four partners, each handing over landing slots; the shard copied to the output; and the
    barrier, which brings the partners' slots. -/
theorem wp_enter (c : Dev nD) (n : Fin 4 → Dev nD) (hn : ∀ a, n a = peer a c) (Q : PUnit → sProp 𝕄) :
    iprop(records X K ∗ levAts L lv ∗ (bigSep Finset.univ fun a : Fin 4 => dutyTok ER (barCell (peer a c)) 0 a)
        ∗ atPos ER (barCell c) 0 ∅ 0 ∗ cred (tallyAt (barCell c) () 4) ∗ comm c ∗ owing c (O₀ c) ∗ xPts c (X c) ∗ (∃ g, oPts c g)
        ∗ ((semVal (barCell c) 0 ∗ (bigSep Finset.univ fun j : Fin 16 => iprop(∃ f, slot (mate j c) j f))
            ∗ (bigSep Finset.univ fun p : Fin 4 => piece c p (X c)) ∗ xPts c (X c) ∗ owing c (owe c 16)) -∗ Q ⟨⟩))
      ⊢ wp frame (wpE (defs₀ (F := F)) 𝒱₀ (c : Thread nD τ) none) Set.univ (enter n) Q := by
  unfold enter
  simp only [wp_bind]
  iintro ⟨#HR, #Hlev, Ht, Ha, Hc, Hcomm, HO, Hx, ⟨%g, Ho⟩, Hk⟩
  ihave Ht' := (Entails.of_eq (Ring.bigSep_fin4 _)) $$ Ht
  icases Ht' with ⟨Ht0, Ht1, Ht2, Ht3⟩
  ihave Hg := ((comm_gifts c).trans (Entails.of_eq (Ring.bigSep_fin4 _))) $$ Hcomm
  icases Hg with ⟨Hg0, Hg1, Hg2, Hg3⟩
  iapply (wp_signal_peer X K c (n 0) 0 (hn 0) (O₁ c) (O₀ c) rfl)
  isplitr; · iexact HR
  isplitl [Ht0]; · iexact Ht0
  isplitl [Hg0]; · iexact Hg0
  isplitl [HO]; · iexact HO
  iintro HO
  iapply (wp_signal_peer X K c (n 1) 1 (hn 1) (O₂ c) (O₁ c) rfl)
  isplitr; · iexact HR
  isplitl [Ht1]; · iexact Ht1
  isplitl [Hg1]; · iexact Hg1
  isplitl [HO]; · iexact HO
  iintro HO
  iapply (wp_signal_peer X K c (n 2) 2 (hn 2) (O₃ c) (O₂ c) rfl)
  isplitr; · iexact HR
  isplitl [Ht2]; · iexact Ht2
  isplitl [Hg2]; · iexact Hg2
  isplitl [HO]; · iexact HO
  iintro HO
  iapply (wp_signal_peer X K c (n 3) 3 (hn 3) (owe c 16) (O₃ c) rfl)
  isplitr; · iexact HR
  isplitl [Ht3]; · iexact Ht3
  isplitl [Hg3]; · iexact Hg3
  isplitl [HO]; · iexact HO
  iintro HO
  unfold xPts oPts Prog.lift semWaitWord owing
  icases HO with ⟨%W, HO⟩
  -- the shard is copied to the output
  iapply (wp_load 𝒱₀ (c : Thread nD τ) none Set.univ (m := xM) (Finset.subset_univ _)) $$ Hx; iintro Hx
  rw [read_shard, wp_ret]; imodintro
  iapply (wp_load 𝒱₀ (c : Thread nD τ) none Set.univ (m := oM) (Finset.subset_univ _)) $$ Ho; iintro Ho
  rw [wp_ret]; imodintro
  iapply (wp_store 𝒱₀ (c : Thread nD τ) none Set.univ (m := oM) (r := rW) (Mk := Finset.univ) (Finset.subset_univ _)) $$ Ho; iintro Ho
  rw [write_shard, wp_ret]; imodintro
  -- the barrier
  ihave HI := (record X K (c, .inl ())) $$ HR
  unfold known
  icases HI with ⟨#HI, #Hr⟩
  iapply (Rounds.wp_wait_rest_token 𝒱₀ ER (sched X) (c : Thread nD τ) none (κ := K (c, .inl ()))
      (wpE_semWait_eq 𝒱₀ (c : Thread nD τ) none Set.univ) (Set.mem_univ _) () (O := owe c 16) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c); iexact Hlev
    iexact Ha
  iintro ⟨HO, Ha, -, Hpay⟩
  ihave Hp := (Entails.of_eq (rest_bar X c)) $$ Hpay
  imod (Rounds.cell_close ER (sched X) (Set.mem_univ (K (c, .inl ()))) (fun h => h) (R := 0 + 1) (duties_later X (barCell c))) $$ [Ha] with Hz
  · isplitr; · iexact HI
    iexact Ha
  rw [wp_ret]; imodintro
  ihave Ho := (Entails.of_eq (out_pieces c (X c))) $$ Ho
  iapply Hk
  isplitl [Hz]; · iexact Hz
  isplitl [Hp]; · iexact Hp
  isplitl [Ho]; · iexact Ho
  isplitl [Hx]; · iexact Hx
  iexists _; iexact HO

/-! ## The whole body -/

/-- What device `c` starts from: what is known of the cells, the duties of its signals and its barrier's position and
    credit, and every exchange before it is sent. -/
def ghost (c : Dev nD) : sProp 𝕄 :=
  iprop(records X K ∗ (bigSep Finset.univ fun a : Fin 4 => dutyTok ER (barCell (peer a c)) 0 a)
    ∗ atPos ER (barCell c) 0 ∅ 0 ∗ cred (tallyAt (barCell c) () 4) ∗ bigSep Finset.univ (Ready c))

/-- What the kernel leaves: the landing buffer as the copies filled it, and every semaphore at zero. -/
def left (c : Dev nD) : sProp 𝕄 :=
  iprop((((c : Thread nD τ).loc cc0_scratch0) ↦{fullShare} CM X c)
    ∗ (bigSep Finset.univ fun j : Fin 16 => semVal (sendCell c j) 0) ∗ (bigSep Finset.univ fun j : Fin 16 => semVal (recvCell c j) 0)
    ∗ semVal (barCell c) 0)

/-- Once every exchange is folded the landing buffer, the semaphores and the output are whole. -/
theorem state_end (c : Dev nD) :
    State X c 16 ⊢ iprop((((c : Thread nD τ).loc cc0_scratch0) ↦{fullShare} CM X c)
      ∗ (bigSep Finset.univ fun j : Fin 16 => semVal (sendCell c j) 0) ∗ (bigSep Finset.univ fun j : Fin 16 => semVal (recvCell c j) 0)
      ∗ oPts c (V X 4 c) ∗ owing c 0) := by
  have hI : Inv X c 16 (16 + 4) = bigSep Finset.univ (Done X c) := bigSep_congr fun j _ => if_pos j.isLt
  have hO : Out X c 16 = bigSep Finset.univ fun p => piece c p (V X 4 c) := bigSep_congr fun p _ => if_pos (by omega)
  unfold State oPts
  rw [hI, hO, ← out_pieces c]
  unfold Done
  rw [bigSep_sep', bigSep_sep', ← comm_slots c]
  iintro ⟨⟨Hs, HzS, HzV⟩, Hp, HO⟩
  isplitl [Hs]; · iexact Hs
  isplitl [HzS]; · iexact HzS
  isplitl [HzV]; · iexact HzV
  isplitl [Hp]; · iexact Hp
  iexact HO

/-- The body, from the staged shard to the staged sum. -/
theorem wp_body (c : Dev nD) (Q : PUnit → sProp 𝕄) :
    iprop(ghost X K c ∗ levAts L lv ∗ comm c ∗ owing c (O₀ c) ∗ xPts c (X c) ∗ (∃ g, oPts c g)
        ∗ ((left X c ∗ owing c 0 ∗ xPts c (X c) ∗ oPts c (V X 4 c)) -∗ Q ⟨⟩))
      ⊢ wp frame (wpE (defs₀ (F := F)) 𝒱₀ (c : Thread nD τ) none) Set.univ body Q := by
  have hout : (iprop(emp) : sProp 𝕄) ⊢ Out X c 0 :=
    Entails.of_eq ((bigSep_congr fun p _ => if_neg (by omega)).trans (bigSep_emp_const _)).symm
  unfold body
  simp only [wp_bind]
  simp only [Prog.lift, wp_deviceId, wp_ret]
  unfold ghost left
  iintro ⟨⟨#HR, Ht, Ha, Hc, Hrd⟩, #Hlev, Hcomm, HO, Hx, Ho, Hk⟩
  imodintro
  iapply (wp_enter X K c (sigDev c) (sigDev_eq c))
  isplitr; · iexact HR
  isplitr; · iexact Hlev
  isplitl [Ht]; · iexact Ht
  isplitl [Ha]; · iexact Ha
  isplitl [Hc]; · iexact Hc
  isplitl [Hcomm]; · iexact Hcomm
  isplitl [HO]; · iexact HO
  isplitl [Hx]; · iexact Hx
  isplitl [Ho]; · iexact Ho
  iintro ⟨Hz, Hsl, Hp, Hx, HO⟩
  iapply (wp_sends X K c (dstDev c) (dstDev_eq c))
  isplitr; · iexact HR
  isplitl [Hrd Hsl]
  · rw [show Inv X c 0 0 = bigSep Finset.univ (fun j : Fin 16 => iprop(Ready c j ∗ ∃ f, slot (mate j c) j f)) from
      bigSep_congr fun j _ => (if_neg (Nat.not_lt_zero _)).trans (if_neg (Nat.not_lt_zero _)), bigSep_sep']
    isplitl [Hrd] <;> iassumption
  isplitl [Hp]; · iexact Hp
  isplitl [HO]; · iexact HO
  iintro ⟨HI, HO⟩
  iapply (wp_steps X K c (dstDev c) (dstDev_eq c) Q 16 (le_refl _))
  isplitr; · iexact HR
  isplitr; · iexact Hlev
  isplitl [HI HO]
  · unfold State
    isplitl [HI]; · iexact HI
    isplitr; · iapply hout; iempintro
    iexact HO
  iintro HS
  ihave HS' := (state_end X c) $$ HS
  icases HS' with ⟨Hs, HzS, HzV, Ho, HO⟩
  iapply Hk
  isplitl [Hs HzS HzV Hz]
  · isplitl [Hs]; · iexact Hs
    isplitl [HzS]; · iexact HzS
    isplitl [HzV] <;> iassumption
  isplitl [HO]; · iexact HO
  isplitl [Hx] <;> iassumption

/-! ## The grid point -/

section Point

variable (m : (ℓ : Loc nD τ sig) → Buf (Elt F) ℓ) (ρ : Dev nD → PrngReg)

/-- The memory at launch: any contents, every semaphore zero, any generator registers. -/
def s₀ : MemSt nD τ sig (Elt F) := ⟨m, fun _ => 0, ρ⟩

/-- The shards, as staged. -/
def shard (c : Dev nD) : Arr F := (win0_0.blk (0 : Fin 1)).view.read (Elt F) ((s₀ m ρ).mem ((c : Thread nD τ).loc main_arg0))

/-- What a device starts the kernel from. -/
def start (c : Dev nD) : sProp 𝕄 := iprop((∃ K, ghost (shard m ρ) K c) ∗ levAts L lv)

/-- The pipeline's data: the shard staged in, the total staged out, and the kernel's own resources before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => shard m ρ c
    | ⟨1, _⟩ => V (shard m ρ) 4 c
  Φ t := match t with
    | ⟨0, _⟩ => iprop(start m ρ c ∗ comm c)
    | ⟨_ + 1, _⟩ => left (shard m ρ) c
  q _ := fullShare
  owed t := match t with
    | ⟨0, _⟩ => O₀ c
    | ⟨_ + 1, _⟩ => 0

omit [FloatOps F] in
theorem owns_staged (c : Dev nD) (b : Ref sig .tc) (x : b.ty.Contents (Elt F)) :
    (owns (Ix := Unit) (Name := ℕ) (U := UU) (Lvl := ℕ) (c : Thread nD τ) (Memref.whole b) fullShare x : sProp 𝕄)
      = iprop(∃ f : Buf (Elt F) (((c : Dev nD) : Thread nD τ).loc b), ⌜f = x⌝ ∗ (((c : Thread nD τ).loc b) ↦{fullShare} f)) := by
  unfold owns; simp only [Memref.view_whole, View.read_whole, View.set_whole]

/-- A staging buffer, at contents that are `x`. -/
abbrev staged (c : Dev nD) (b : Ref sig .tc) (x : b.ty.Contents (Elt F)) : sProp 𝕄 :=
  iprop(∃ f : Buf (Elt F) (((c : Dev nD) : Thread nD τ).loc b), ⌜f = x⌝ ∗ (((c : Thread nD τ).loc b) ↦{fullShare} f))

theorem fetched (t : Fin cfg0.N) : (cfg0.win (0 : Fin 2)).fetch t = true := by rw [fin_N0 t]; rfl

set_option maxRecDepth 32768 in
/-- The body obligation of device `c`: from its start and the staged shard the kernel reaches its end and the staged
    total. -/
theorem body_obligation (c : Dev nD) : BodyObligation (dats (F := F) m ρ 0 c) (defs₀ (F := F)) 𝒱₀ () Set.univ := fun t => by
  rw [fin_N0 t]
  rw [bigSep_W0, bigSep_W0]
  simp only [owns_staged]
  show iprop((start m ρ c ∗ comm c) ∗ (dats m ρ 0 c).owesAt () t0_0.castSucc
      ∗ (∃ d, staged c cc0_stg0_0 ((dats m ρ 0 c).before (0 : Fin 2) t0_0 d))
      ∗ (∃ d, staged c cc0_stg1_0 ((dats m ρ 0 c).before (1 : Fin 2) t0_0 d)))
    ⊢ wp frame (wpE (defs₀ (F := F)) 𝒱₀ c none) Set.univ
      (cc0_body xM (Memref.isWhole_whole _) oM (Memref.isWhole_whole _) cM (Memref.isWhole_whole _) cc0_scratch1 cc0_scratch2)
      (fun _ => iprop(left (shard m ρ) c ∗ (dats m ρ 0 c).owesAt () t0_0.succ
        ∗ staged c cc0_stg0_0 (shard m ρ c) ∗ staged c cc0_stg1_0 (V (shard m ρ) 4 c)))
  rw [body_eq]
  unfold start Dat.owesAt Pipeline.owesWithin
  iintro ⟨⟨⟨⟨%K, Hg⟩, Hlev⟩, Hc⟩, ⟨%W, %hW, HO⟩, ⟨%d0, %g0, %hg0, Hx⟩, ⟨%d1, %g1, %hg1, Hout⟩⟩
  have hx : g0 = shard m ρ c := by rw [hg0]; unfold Dat.before; rw [if_pos (fetched t0_0)]; rfl
  subst hx
  rw [show (dats m ρ 0 c).owed t0_0.castSucc = O₀ c from rfl, show (dats m ρ 0 c).owed t0_0.succ = 0 from rfl]
  iapply (wp_body (shard m ρ) K c)
  isplitl [Hg]; · iexact Hg
  isplitl [Hlev]; · iexact Hlev
  isplitl [Hc]; · iexact Hc
  isplitl [HO]; · unfold owing; iexists W; iexact HO
  isplitl [Hx]; · unfold xPts; iexact Hx
  isplitl [Hout]; · unfold oPts; iexists g1; iexact Hout
  unfold owing xPts oPts
  iintro ⟨Hl, ⟨%W', HO⟩, Hx, Ho⟩
  isplitl [Hl]; · iexact Hl
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

end Point

end Cert.KernelIdeal.Doubling

end
-- ==== Proof.Launch.lean ====
/-
The launch: what each device is dealt, and the run of the whole program.

Every cell's duties are minted where the cell is and dealt to the device that pays them — a partner across a fixed axis,
so each deal is a permutation of the devices.
-/
module

public import proofs.«01_k».proof.Proof.Point
public import Idealize.ShloMosaic.Lib.Pipeline.CollectiveSegs

@[expose] public section

noncomputable section

namespace Cert.KernelIdeal.Doubling

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties, minted -/

theorem ownSemFacts : Pipeline.OwnSemFacts cfg0.spec osem := by decide

theorem csem_injective : Function.Injective csem := by decide

theorem kcell_injective : Function.Injective kcell := by
  rintro ⟨c, k⟩ ⟨c', k'⟩ h
  obtain rfl : c = c' := congrArg (fun g : GSem nD τ sig => g.1.1) h
  obtain rfl : k = k' := csem_injective (congrArg Prod.snd h)
  rfl

/-- A device's duties: on its barrier one per axis, on each of its copies' cells one. -/
abbrev DutyIx : Type := Fin 4 ⊕ (Fin 16 ⊕ Fin 16)
/-- The cell a duty is on, and its name there. -/
abbrev dutyCell : DutyIx → CellIx := Sum.map (fun _ => ()) id
abbrev dutyName : DutyIx → Fin 4 := Sum.elim id fun _ => 0

/-- The duties as they are minted. -/
abbrev tokOf (x : Dev nD × DutyIx) : GSem nD τ sig × ℕ × Fin 4 := (kcell (x.1, dutyCell x.2), 0, dutyName x.2)

theorem duty_injective : Function.Injective fun x : DutyIx => (dutyCell x, dutyName x) := by
  rintro (a | j) (a' | j') h
  · exact congrArg Sum.inl (congrArg Prod.snd h)
  · exact absurd (congrArg Prod.fst h) Sum.inl_ne_inr
  · exact absurd (congrArg Prod.fst h) Sum.inr_ne_inl
  · exact congrArg Sum.inr (Sum.inr_injective (congrArg Prod.fst h))

theorem tokOf_injective : Function.Injective tokOf := by
  rintro ⟨c, x⟩ ⟨c', x'⟩ h
  have h1 := kcell_injective (congrArg Prod.fst h)
  obtain rfl : c = c' := congrArg Prod.fst h1
  obtain rfl : x = x' := duty_injective (Prod.ext (congrArg Prod.snd h1) (congrArg (fun y => y.2.2) h))
  rfl

/-- Every cell, and every duty. -/
def allCells : Finset (GSem nD τ sig) := Finset.univ.map ⟨kcell, kcell_injective⟩
def allToks : Finset (GSem nD τ sig × ℕ × Fin 4) := Finset.univ.map ⟨tokOf, tokOf_injective⟩

/-- The launch element: the staging pipeline's and the protocol's. -/
def u₀ : UU := (initOf (Pipeline.cells cfgs cellOf_inj) (Pipeline.launchToks cfgs cellOf_inj), initOf allCells allToks)

/-- The duties on device `c`'s own cells. -/
def toks (c : Dev nD) : sProp 𝕄 := bigSep Finset.univ fun x : DutyIx => dutyTok ER (kcell (c, dutyCell x)) 0 (dutyName x)

/-- What the launch element gives device `c`. -/
def G (c : Dev nD) : sProp 𝕄 :=
  iprop((bigSep Finset.univ fun k : CellIx => roundState ER (sched (shard m ρ)) (kcell (c, k)) 0)
    ∗ (bigSep Finset.univ fun k : CellIx => reached ER (kcell (c, k)) 0)
    ∗ (bigSep Finset.univ fun k : CellIx => atPos ER (kcell (c, k)) 0 ∅ 0) ∗ toks c)

/-- What device `c` holds once the cells are made and the duties dealt, but for its launch credit. -/
def dealt (K : Dev nD × CellIx → ℕ) (c : Dev nD) : sProp 𝕄 :=
  iprop(records (shard m ρ) K ∗ (bigSep Finset.univ fun a : Fin 4 => dutyTok ER (barCell (peer a c)) 0 a)
    ∗ (bigSep Finset.univ fun j : Fin 16 => dutyTok ER (sendCell c j) 0 (0 : Fin 4))
    ∗ (bigSep Finset.univ fun j : Fin 16 => dutyTok ER (recvCell (mate j c) j) 0 (0 : Fin 4))
    ∗ bigSep Finset.univ fun k : CellIx => atPos ER (kcell (c, k)) 0 ∅ 0)
def G' (c : Dev nD) : sProp 𝕄 := iprop(∃ K, dealt m ρ K c)

/-- The launch element gives every device its share. -/
theorem fund_all : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (sched (shard m ρ)) allCells allToks) $$ HX with ⟨Hst, Hr, Hat, Htok⟩
  imodintro
  ihave Hst' := (Entails.of_eq (hX fun g => roundState ER (sched (shard m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

/-! ## The cells made, the duties dealt -/

omit [FloatOps F] in
/-- The barrier semaphore is the one semaphore outside the kernel's scope. -/
theorem unscoped_bar (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero, cell by cell. -/
theorem sems_cells (c : Dev nD) :
    (bigSep Finset.univ fun k : CellIx => semVal (kcell (c, k)) 0 : sProp 𝕄)
      = iprop(unscopedSems0 c ∗ Pipeline.ownSems0 (Ix := Unit) (Name := ℕ) (U := UU) (Lvl := ℕ) (Val := Elt F) (τ := τ) osem c) := by
  rw [unscoped_bar, bigSep_univ_sum]
  exact congrArg (fun R => iprop(R ∗ Pipeline.ownSems0 osem c)) (bigSep_univ_eq_bigSepL [()] (by decide) (by decide) _)

/-- Every cell of device `c` is made from its semaphore and its state. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched (shard m ρ)) κ (kcell (c, k))))
          ∗ (bigSep Finset.univ fun k : CellIx => reached ER (kcell (c, k)) 0)
          ∗ (bigSep Finset.univ fun k : CellIx => atPos ER (kcell (c, k)) 0 ∅ 0) ∗ toks c) := by
  have halloc : iprop((bigSep Finset.univ fun k : CellIx => semVal (kcell (c, k)) 0)
        ∗ bigSep Finset.univ fun k : CellIx => roundState ER (sched (shard m ρ)) (kcell (c, k)) 0)
      ⊢ (|={Set.univ}=> bigSep Finset.univ fun k => iprop(∃ κ : ℕ, cellInv ER (sched (shard m ρ)) κ (kcell (c, k))) : sProp 𝕄) := by
    rw [← bigSep_sep']
    exact (bigSep_mono fun k _ => (Rounds.body_intro ER (sched (shard m ρ)) (kcell (c, k))).trans inv_alloc).trans (bigSep_fupd _ _)
  rw [sems_cells] at halloc
  unfold G
  iintro ⟨Hos, Hus, Hst, Hr, Hat, Htok⟩
  imod halloc $$ [Hos Hus Hst] with Hinv
  · isplitl [Hos Hus]
    · isplitl [Hus] <;> iassumption
    iexact Hst
  imodintro
  isplitl [Hinv]; · iexact Hinv
  isplitl [Hr]; · iexact Hr
  isplitl [Hat] <;> iassumption

omit [FloatOps F] in
/-- A family over devices and exchanges, each exchange's members passed across an axis. -/
theorem pass {I : Type} [Fintype I] (a : I → Fin 4) (Φ : Dev nD → I → sProp 𝕄) :
    (bigSep Finset.univ fun c => bigSep Finset.univ (Φ c)) = bigSep Finset.univ fun c => bigSep Finset.univ fun i => Φ (peer (a i) c) i := by
  let e : Dev nD × I ≃ Dev nD × I :=
    ⟨fun x => (peer (a x.2) x.1, x.2), fun x => (peer (a x.2) x.1, x.2), fun x => by simp only [peer_peer], fun x => by simp only [peer_peer]⟩
  have h1 := bigSep_univ_prod fun x : Dev nD × I => Φ x.1 x.2
  have h2 := bigSep_univ_equiv e fun x : Dev nD × I => Φ x.1 x.2
  have h3 := bigSep_univ_prod fun x : Dev nD × I => Φ (peer (a x.2) x.1) x.2
  exact h1.symm.trans (h2.trans h3)

/-- The duties device `c` pays: a signal across every axis, and at each copy its own send and its mate's receive. -/
def yours (c : Dev nD) : sProp 𝕄 :=
  iprop((bigSep Finset.univ fun a : Fin 4 => dutyTok ER (barCell (peer a c)) 0 a)
    ∗ (bigSep Finset.univ fun j : Fin 16 => dutyTok ER (sendCell c j) 0 (0 : Fin 4))
    ∗ bigSep Finset.univ fun j : Fin 16 => dutyTok ER (recvCell (mate j c) j) 0 (0 : Fin 4))

omit [FloatOps F] in
/-- The duties dealt to the devices that pay them. -/
theorem toks_dealt : (bigSep Finset.univ fun c : Dev nD => (toks c : sProp 𝕄))
    = bigSep Finset.univ fun c : Dev nD => yours c := by
  unfold yours
  have hb : (bigSep Finset.univ fun c : Dev nD => bigSep Finset.univ fun a : Fin 4 => (dutyTok ER (barCell c) 0 a : sProp 𝕄))
      = bigSep Finset.univ fun c : Dev nD => bigSep Finset.univ fun a : Fin 4 => dutyTok ER (barCell (peer a c)) 0 a := pass id _
  have hv : (bigSep Finset.univ fun c : Dev nD => bigSep Finset.univ fun j : Fin 16 => (dutyTok ER (recvCell c j) 0 (0 : Fin 4) : sProp 𝕄))
      = bigSep Finset.univ fun c : Dev nD => bigSep Finset.univ fun j : Fin 16 => dutyTok ER (recvCell (mate j c) j) 0 (0 : Fin 4) := pass ax _
  rw [bigSep_sep', bigSep_sep', ← hb, ← hv, ← bigSep_sep', ← bigSep_sep']
  refine bigSep_congr fun c _ => ?_
  unfold toks
  rw [bigSep_univ_sum, bigSep_univ_sum]
  rfl

omit [FloatOps F] in
/-- Something known for good may be used at every member of a family. -/
theorem bigSep_known {I : Type} [DecidableEq I] {S : Finset I} {R : sProp 𝕄} [BI.Persistent R] (Φ : I → sProp 𝕄) :
    iprop(R ∗ bigSep S Φ) ⊢ bigSep S fun i => iprop(R ∗ Φ i) :=
  (sep_mono_left (BI.bigSep_of_persistent S R)).trans (Entails.of_eq (bigSep_sep' S (fun _ => R) Φ).symm)

theorem deal_one (K : Dev nD × CellIx → ℕ) (c : Dev nD) :
    iprop(records (shard m ρ) K ∗ yours c ∗ bigSep Finset.univ fun k : CellIx => atPos ER (kcell (c, k)) 0 ∅ 0) ⊢ G' m ρ c := by
  unfold G' dealt yours
  iintro ⟨HR, ⟨H1, H2, H3⟩, H4⟩
  iexists K
  isplitl [HR]; · iexact HR
  isplitl [H1]; · iexact H1
  isplitl [H2]; · iexact H2
  isplitl [H3] <;> iassumption

/-- The cells' names chosen, what is known of them given to every device, and the duties dealt. -/
theorem regroup :
    (bigSep Finset.univ fun c : Dev nD => iprop((bigSep Finset.univ fun k => iprop(∃ κ : ℕ, cellInv ER (sched (shard m ρ)) κ (kcell (c, k))))
          ∗ (bigSep Finset.univ fun k : CellIx => reached ER (kcell (c, k)) 0)
          ∗ (bigSep Finset.univ fun k : CellIx => atPos ER (kcell (c, k)) 0 ∅ 0) ∗ toks c) : sProp 𝕄)
      ⊢ bigSep Finset.univ (G' m ρ) := by
  have hK (K : Dev nD × CellIx → ℕ) : iprop((bigSep Finset.univ fun x => cellInv ER (sched (shard m ρ)) (K x) (kcell x))
      ∗ bigSep Finset.univ fun x => reached ER (kcell x) 0) = (records (shard m ρ) K : sProp 𝕄) := by
    unfold records known; rw [bigSep_sep']
  have hG (K : Dev nD × CellIx → ℕ) : iprop(records (shard m ρ) K ∗ (bigSep Finset.univ fun c : Dev nD => yours c)
      ∗ bigSep Finset.univ fun c : Dev nD => bigSep Finset.univ fun k : CellIx => atPos ER (kcell (c, k)) 0 ∅ 0) ⊢ bigSep Finset.univ (G' m ρ) := by
    rw [← bigSep_sep']
    exact (bigSep_known _).trans (bigSep_mono fun c _ => deal_one m ρ K c)
  rw [bigSep_sep', bigSep_sep', bigSep_sep', toks_dealt,
    ← bigSep_univ_prod (fun x : Dev nD × CellIx => iprop(∃ κ : ℕ, cellInv ER (sched (shard m ρ)) κ (kcell x))),
    ← bigSep_univ_prod (fun x : Dev nD × CellIx => (reached ER (kcell x) 0 : sProp 𝕄))]
  iintro ⟨HI, Hr, Hat, Htok⟩
  ihave HK := (BI.bigSep_exists_pi Finset.univ
    (fun (x : Dev nD × CellIx) (κ : ℕ) => (cellInv ER (sched (shard m ρ)) κ (kcell x) : sProp 𝕄))) $$ HI
  icases HK with ⟨%K, HI⟩
  iapply (hG K)
  isplitl [HI Hr]
  · iapply (Entails.of_eq (hK K))
    isplitl [HI] <;> iassumption
  isplitl [Htok] <;> iassumption

/-- Every device's cells made and duties dealt, at once. -/
theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The launch credit -/

/-- What is owed for the copies, step by step. -/
theorem owe_sum (c : Dev nD) : owe c 16 = ∑ j : Fin 16, tallyAt (recvCell (mate j c) j) () N := by
  have h : ∀ r, owe c r = ∑ s ∈ Finset.range r, tallyAt (recvCell (mate (back s) c) (back s)) () N := by
    intro r
    induction r with
    | zero => rfl
    | succ r ih => rw [Finset.sum_range_succ, ← ih]; rfl
  rw [h, Finset.sum_range]
  refine (Finset.sum_congr rfl fun i _ => ?_).trans (Equiv.sum_comp Fin.revPerm fun j : Fin 16 => tallyAt (recvCell (mate j c) j) () N)
  have e : back i.val = Fin.revPerm i := Fin.ext (by show 15 - i.val = 16 - (i.val + 1); omega)
  rw [e]

omit [FloatOps F] in
theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2

omit [FloatOps F] in
/-- A device's launch credit: four signals on its barrier, and every copy to it. -/
theorem creds (c : Dev nD) : (Pipeline.launchCred O₀ c : sProp 𝕄)
    ⊢ iprop(cred (tallyAt (barCell c) () 4) ∗ bigSep Finset.univ fun j : Fin 16 => cred (tallyAt (recvCell c j) () N)) := by
  have hb (a : Fin 4) := Pipeline.launchCred_tallyAt (Val := Elt F) (Name := ℕ) (U := UU) (Lvl := ℕ) (τ := τ) (SemLoc.reg barS) (peer a) (peer a)
    (peer_peer a) (peer_peer a) () 1 c
  have hv (j : Fin 16) := Pipeline.launchCred_tallyAt (Val := Elt F) (Name := ℕ) (U := UU) (Lvl := ℕ) (τ := τ) (SemLoc.dma (vSem j)) (mate j) (mate j)
    (peer_peer (ax j)) (peer_peer (ax j)) () N c
  have e : (Pipeline.launchCred O₀ c : sProp 𝕄) = iprop((((Pipeline.launchCred (fun d => ∑ j : Fin 16, tallyAt (recvCell (mate j d) j) () N) c
      ∗ Pipeline.launchCred (fun d => tallyAt (barCell (peer 3 d)) () 1) c) ∗ Pipeline.launchCred (fun d => tallyAt (barCell (peer 2 d)) () 1) c)
      ∗ Pipeline.launchCred (fun d => tallyAt (barCell (peer 1 d)) () 1) c) ∗ Pipeline.launchCred (fun d => tallyAt (barCell (peer 0 d)) () 1) c) := by
    rw [← Pipeline.launchCred_add, ← Pipeline.launchCred_add, ← Pipeline.launchCred_add, ← Pipeline.launchCred_add]
    exact congrArg (fun O => Pipeline.launchCred O c) (funext fun d => by unfold O₀ O₁ O₂ O₃; rw [owe_sum])
  have hV : Pipeline.launchCred (fun d => ∑ j : Fin 16, tallyAt (recvCell (mate j d) j) () N) c
      ⊢ (bigSep Finset.univ fun j : Fin 16 => cred (tallyAt (recvCell c j) () N) : sProp 𝕄) := by
    rw [Pipeline.launchCred_sum]; exact bigSep_mono fun j _ => hv j
  rw [e]
  iintro ⟨⟨⟨⟨Hv, H3⟩, H2⟩, H1⟩, H0⟩
  ihave H3 := (hb 3) $$ H3
  ihave H2 := (hb 2) $$ H2
  ihave H1 := (hb 1) $$ H1
  ihave H0 := (hb 0) $$ H0
  isplitr [Hv]
  · iapply (cred_join (F := F) (barCell c) 3 1)
    isplitr [H0]
    · iapply (cred_join (F := F) (barCell c) 2 1)
      isplitr [H1]
      · iapply (cred_join (F := F) (barCell c) 1 1)
        isplitl [H3] <;> iassumption
      iexact H1
    iexact H0
  iapply hV
  iexact Hv

/-! ## The theorem's side conditions -/

theorem share_full (c : Dev nD) (w : Fin cfg0.W) : (dats m ρ 0 c).share w = fullShare := by unfold Dat.share; split <;> rfl

omit [FloatOps F] in
/-- A device's positions, by kind of cell. -/
theorem positions (c : Dev nD) : (bigSep Finset.univ fun k : CellIx => (atPos ER (kcell (c, k)) 0 ∅ 0 : sProp 𝕄))
    = iprop(atPos ER (barCell c) 0 ∅ 0 ∗ (bigSep Finset.univ fun j : Fin 16 => atPos ER (sendCell c j) 0 ∅ 0)
      ∗ bigSep Finset.univ fun j : Fin 16 => atPos ER (recvCell c j) 0 ∅ 0) := by
  rw [bigSep_univ_sum, bigSep_univ_sum]
  exact congrArg (fun R => iprop(R ∗ _ ∗ _)) (bigSep_univ_eq_bigSepL [()] (by decide) (by decide) _)

theorem ghost_intro (K : Dev nD × CellIx → ℕ) (c : Dev nD) :
    iprop(dealt m ρ K c ∗ cred (tallyAt (barCell c) () 4) ∗ bigSep Finset.univ fun j : Fin 16 => cred (tallyAt (recvCell c j) () N))
      ⊢ ghost (shard m ρ) K c := by
  unfold dealt ghost Ready
  rw [positions, bigSep_sep', bigSep_sep', bigSep_sep', bigSep_sep']
  iintro ⟨⟨HR, Ht, HtS, HtV, HaB, HaS, HaV⟩, Hc, HcV⟩
  isplitl [HR]; · iexact HR
  isplitl [Ht]; · iexact Ht
  isplitl [HaB]; · iexact HaB
  isplitl [Hc]; · iexact Hc
  isplitl [HtS]; · iexact HtS
  isplitl [HtV]; · iexact HtV
  isplitl [HaS]; · iexact HaS
  isplitl [HaV] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, ⟨%K, HG⟩⟩
  ihave Hc := (creds (F := F) c) $$ Hcr
  imodintro
  isplitl
  · isplitr [Hlev]
    · iexists K
      iapply (ghost_intro m ρ K c)
      isplitl [HG] <;> iassumption
    iexact Hlev
  · iempintro

theorem point_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ comm c) from rfl, scopedRest0_eq]
  unfold comm
  iintro ⟨Hs, -, Hr⟩
  isplitl [Hs] <;> iassumption

theorem point_exit (c : Dev nD) :
    (dats m ρ 0 c).Φ (Fin.last cfg0.N) ⊢ iprop(unscopedSems0 c ∗ Pipeline.ownSems0 osem c ∗ Pipeline.scopedRest cfg0.spec c) := by
  have hs : (Pipeline.ownSems0 (Ix := Unit) (Name := ℕ) (U := UU) (Lvl := ℕ) (Val := Elt F) (τ := τ) osem c : sProp 𝕄)
      = iprop((bigSep Finset.univ fun j : Fin 16 => semVal (sendCell c j) 0) ∗ bigSep Finset.univ fun j : Fin 16 => semVal (recvCell c j) 0) :=
    bigSep_univ_sum _
  rw [show (dats m ρ 0 c).Φ (Fin.last cfg0.N) = left (shard m ρ) c from rfl, scopedRest0_eq, hs, unscoped_bar]
  unfold left
  iintro ⟨Hr, HzS, HzV, HzB⟩
  isplitl [HzB]; · iexact HzB
  isplitl [HzS HzV]
  · isplitl [HzS] <;> iassumption
  iexists (CM (shard m ρ) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of a window's array at the end. -/
def finalA (c : Dev nD) (w : Fin cfg0.W) : Buf (Elt F) ((cfg0.win w).arr.view.loc (c : Thread nD τ)) := (dats m ρ 0 c).arrAt w cfg0.N

set_option maxRecDepth 8000 in
/-- On sixteen devices, for any float values, from any memory with every semaphore at zero: every fair run ends, and at
    every end each device's arrays hold the contents computed and every semaphore is at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := point_intro m ρ) (hout := point_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.KernelIdeal.Doubling

end
-- ==== Proof.Value.lean ====
/-
What the run computes over the extended reals: every device ends with the sum of all sixteen shards, which is what the
reference computes of the whole array.
-/
module

public import proofs.«01_k».proof.Defs
public import proofs.«01_k».proof.Proof.Launch
public import proofs.«01_k».proof.Proof.Gen.ReferenceIdeal.Run
public import Idealize.ShloMosaic.Lib.IdealHost
public import Idealize.ShloMosaic.Lib.LayoutAt
public import Idealize.ShloMosaic.Lib.Pipeline.Value
public import Idealize.ShloMosaic.Lib.Pointwise.Reduce

@[expose] public section

noncomputable section

namespace Cert.KernelIdeal.Doubling

open Cert.KernelIdeal Cert.KernelIdeal.Gen
open Idealize.ShloMosaic
open Idealize.ShloMosaic.TcCoe
open Idealize.SL.Sem

/-! ## The arrays at the end, for any float values -/

section Arrays

variable {F : FTy → Type} [FloatOps F] (m : (ℓ : Loc nD τ sig) → Buf (Elt F) ℓ) (ρ : Dev nD → PrngReg)

/-- Device `c`'s block of the argument is the whole of its argument array. -/
theorem shard_eq (c : Dev nD) : shard m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- Device `c`'s result array ends holding its running sum after the four rounds. -/
theorem finalA_out (c : Dev nD) : finalA m ρ c (1 : Fin 2) = V (shard m ρ) 4 c := by
  have hz : (fun a => (win0_1.index (0 : Fin 1)) a * main_v1.ty.shape.size a) = fun _ => 0 := funext fun a => by fin_cases a <;> decide
  have hr : (win0_1.blk (0 : Fin 1)).view.read (Elt F) (finalA m ρ c (1 : Fin 2)) = V (shard m ρ) 4 c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1 hz (fun a => by fin_cases a <;> decide) _).symm.trans hr

end Arrays

/-! ## The sum of all shards -/

/-- The devices whose shards the running sum of `c` before round `k` adds up, in a row of piece `p`. -/
def reach : ℕ → Fin 4 → Dev nD → List (Dev nD)
  | 0, _, c => [c]
  | k + 1, p, c => reach k p c ++ reach k p (peer (Fin.ofNat 4 k + p) c)

/-- After four rounds every device's shard is in, once, whatever the order in which the piece crosses the axes. -/
theorem reach_all : ∀ (p : Fin 4) (c : Dev nD), (reach 4 p c).Perm (List.finRange 16) := by decide +kernel

/-- Over the extended reals the running sum is the sum of the shards it has met. -/
theorem V_sum (X : Dev nD → Arr Ideal) (i : S256x256.Idx) :
    ∀ k c, V X k c i = ((reach k (prow i) c).map fun d => (X d i : EReal)).sum
  | 0, c => (add_zero (X c i : EReal)).symm
  | k + 1, c => by
    show (V X k c i : EReal) + V X k (peer (Fin.ofNat 4 k + prow i) c) i = _
    rw [V_sum X i k c, V_sum X i k (peer (Fin.ofNat 4 k + prow i) c)]
    simp only [reach, List.map_append, List.sum_append]

/-- Over the extended reals every device ends with the sum of all sixteen shards. -/
theorem V_total (X : Dev nD → Arr Ideal) (c : Dev nD) (i : S256x256.Idx) : V X 4 c i = ∑ d : Fin 16, (X d i : EReal) := by
  rw [V_sum, Fin.sum_univ_def]
  exact ((reach_all (prow i) c).map _).sum_eq

/-! ## The reference -/

/-- What the reference computes of the whole array. -/
def refOut (x : Cert.ReferenceIdeal.S4096x256.Idx → EReal) : Cert.ReferenceIdeal.S256x256.Idx → EReal :=
  truncf (F := Ideal) .bf16 (Host.reduceAdd (F := Ideal) (extf (F := Ideal) (φ := .bf16) .f32
    (shapeCast _ x Cert.ReferenceIdeal.Gen.facts.shapeCasts_S4096x256_S16x256x256) Cert.ReferenceIdeal.Gen.facts.bitsLt_bf16_f32)
    (constant (F := Ideal) Cert.ReferenceIdeal.S_ .f32 0x00000000#32)
    Cert.ReferenceIdeal.Gen.facts.reducesTo_S16x256x256_S256x256_d0 Cert.ReferenceIdeal.Gen.facts.h_S_) Cert.ReferenceIdeal.Gen.facts.bitsLt_bf16_f32

/-- The reference's entry is the sum of that entry over the sixteen blocks of the whole array. -/
theorem refOut_apply (x : Cert.ReferenceIdeal.S4096x256.Idx → EReal) (i : S256x256.Idx) :
    refOut x i = ∑ d : Fin 16, Layout.block ⟨2, ![256, 256]⟩ ⟨2, ![4096, 256]⟩ 0 16 d x (by decide) i := by
  show Ideal.hostReduceAdd Cert.ReferenceIdeal.Gen.facts.reducesTo_S16x256x256_S256x256_d0
    (shapeCast _ x Cert.ReferenceIdeal.Gen.facts.shapeCasts_S4096x256_S16x256x256) (Ideal.ofBits .f32 0x00000000#32) i = _
  rw [Ideal.hostReduceAdd_r3_a0, Ideal.ofBits_zero_f32, zero_add]
  refine Finset.sum_congr rfl fun d _ => ?_
  rw [Layout.block_apply]
  refine shapeCast_apply x _ _ _ ?_
  rw [Shape.rowMajor_val_two, Shape.rowMajor_val_three, Layout.Tiles.idx_val, Layout.Tiles.idx_val]
  rfl

/-- Every device's result is the reference's, when the shards are the blocks of the reference's array. -/
theorem result_eq (X : Dev nD → Arr Ideal) (x : Cert.ReferenceIdeal.S4096x256.Idx → EReal)
    (hX : ∀ c, X c = Layout.block ⟨2, ![256, 256]⟩ ⟨2, ![4096, 256]⟩ 0 16 c x (by decide)) (c : Dev nD) : V X 4 c = refOut x := by
  funext i
  rw [V_total, refOut_apply]
  exact Finset.sum_congr rfl fun d _ => congrFun (hX d) i

end Cert.KernelIdeal.Doubling

end
-- ==== Proof.lean ====
/-
The certificate: the three runs and the value, put together. The kernel's run is proved once, over any float values
(Proof/Launch.lean); what it computes over the extended reals is in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.KernelIdeal.Doubling

/-- Over any float values the kernel ends, its argument unchanged and every semaphore at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0 :=
  (θ_run Cert.KernelIdeal.defs _ _).mono (fun _ h => ⟨fun c => (h.1 c (0 : Fin 2)).trans (finalA_in m ρ c), h.2⟩) (run_main m ρ)

set_option maxRecDepth 32768 in
/-- The two programs have one text: their tables of kernel functions are equal, -/
theorem kernels_eq : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | 0, (t, s) => exact rfl

/-- and so are the tables with the pipeline's labels. -/
theorem defs_eq : Cert.Kernel.defs (F := Bits) = Cert.KernelIdeal.defs (F := Bits) := congrArg (Pipeline.defs _) kernels_eq

/-- The kernel over bit patterns. -/
theorem frame_kernel : Cert.quiescent_Kernel := fun m ρ _ =>
  (congrArg (fun d => θ_run d (onTc (τ := Cert.Kernel.τ) (Cert.Kernel.main (F := Bits))) ⟨m, fun _ => 0, ρ⟩ fun r =>
    (∀ c : Dev Cert.Kernel.nD, r.2.mem ((c : Thread Cert.Kernel.nD Cert.Kernel.τ).loc Cert.Kernel.main_arg0)
      = m ((c : Thread Cert.Kernel.nD Cert.Kernel.τ).loc Cert.Kernel.main_arg0)) ∧ r.2.sem = fun _ => 0) defs_eq).mpr (frame (F := Bits) m ρ)

/-- The kernel over the extended reals. -/
theorem frame_ideal : Cert.quiescent_KernelIdeal := fun m ρ _ => frame (F := Ideal) m ρ

/-- The reference ends, its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, when each device's argument is its block of the reference's, every device's result is the
    reference's result. -/
theorem algebraic : Cert.algebraic_KernelIdeal_ReferenceIdeal := by
  intro m ρ m' ρ' _ hagree
  refine ⟨refOut (m' (((0 : Dev Cert.ReferenceIdeal.nD) : Thread Cert.ReferenceIdeal.nD Cert.ReferenceIdeal.τ).loc Cert.ReferenceIdeal.main_arg0)), ?_, ?_⟩
  · refine (θ_run Cert.KernelIdeal.defs _ _).mono (fun _ h c => ⟨(h.1 c (1 : Fin 2)).trans ?_, (h.1 c (0 : Fin 2)).trans (finalA_in m ρ c)⟩)
      (run_main (F := Ideal) m ρ)
    exact (finalA_out m ρ c).trans (result_eq _ _ (fun d => (shard_eq m ρ d).trans (hagree d)) c)
  · exact (θ_run Cert.ReferenceIdeal.defs _ _).mono (fun _ h => h 0) (Cert.ReferenceIdeal.Value.run (F := Ideal) m' ρ')

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
